-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "big" .f32 0x7149F2CA#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x1024x3 : Shape := ⟨3, ![16, 1024, 3]⟩
abbrev S16x4096x3 : Shape := ⟨3, ![16, 4096, 3]⟩
abbrev S16x1024 : Shape := ⟨2, ![16, 1024]⟩
abbrev S16x4096 : Shape := ⟨2, ![16, 4096]⟩
abbrev S_ : Shape := ⟨0, ![]⟩

class Facts : Prop where
  bcast_S_S16x1024x3 : S_.BroadcastsInDim S16x1024x3 (![] : Fin 0 → Fin S16x1024x3.rank)
  reducesTo_S16x1024x3_S_d0_1_2 : S16x1024x3.ReducesTo [0, 1, 2] S_
  h_S_ : 0 < S_.numel
  bcast_S_S16x4096x3 : S_.BroadcastsInDim S16x4096x3 (![] : Fin 0 → Fin S16x4096x3.rank)
  reducesTo_S16x4096x3_S_d0_1_2 : S16x4096x3.ReducesTo [0, 1, 2] S_

variable [Facts]

def fn {F : FTy → Type} [FloatOps F] (main_arg0 : FVec F S16x1024x3 .f32) (main_arg1 : FVec F S16x4096x3 .f32) (main_arg2 : IVec S16x1024 1) (main_arg3 : IVec S16x4096 1) : IVec S_ 1 :=
  let main_v0 : FVec F S16x1024x3 .f32 := Host.absf main_arg0
  let main_cst : FVec F S_ .f32 := constant S_ .f32 0x7F800000#32
  let main_v1 : FVec F S16x1024x3 .f32 := broadcastInDim S16x1024x3 ![] bcast_S_S16x1024x3 main_cst
  let main_v2 : IVec S16x1024x3 1 := cmpf .olt main_v0 main_v1
  let main_c : IVec S_ 1 := constantI S_ 1 1#1
  let main_v3 : IVec S_ 1 := (fun x v => Host.reduce IntOp.andi x v reducesTo_S16x1024x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x1024x3 : Shape := ⟨3, ![16, 1024, 3]⟩
abbrev S16x4096x3 : Shape := ⟨3, ![16, 4096, 3]⟩
abbrev S16x1024 : Shape := ⟨2, ![16, 1024]⟩
abbrev S16x4096 : Shape := ⟨2, ![16, 4096]⟩
abbrev S3x1024x16 : Shape := ⟨3, ![3, 1024, 16]⟩
abbrev S3x16x4096 : Shape := ⟨3, ![3, 16, 4096]⟩
abbrev S1024x16 : Shape := ⟨2, ![1024, 16]⟩
abbrev S3x512x16 : Shape := ⟨3, ![3, 512, 16]⟩
abbrev S512x16 : Shape := ⟨2, ![512, 16]⟩
abbrev S1x512x16 : Shape := ⟨3, ![1, 512, 16]⟩
abbrev S1x16x4096 : Shape := ⟨3, ![1, 16, 4096]⟩
abbrev S512x4096 : Shape := ⟨2, ![512, 4096]⟩
abbrev S512x1 : Shape := ⟨2, ![512, 1]⟩
abbrev S1x4096 : Shape := ⟨2, ![1, 4096]⟩
abbrev S512x1024 : Shape := ⟨2, ![512, 1024]⟩
abbrev S512 : Shape := ⟨1, ![512]⟩

abbrev nBuf : Space → Nat
  | .hbm => 11
  | .vmem => 10
  | .smem => 0
  | _ => 0

abbrev bufTy : (tb : Table) → Fin (tcTables nBuf tb) → BufTy
  | .hbm, ⟨0, _⟩ => ⟨S16x1024x3, .f32⟩
  | .hbm, ⟨1, _⟩ => ⟨S16x4096x3, .f32⟩
  | .hbm, ⟨2, _⟩ => ⟨S16x1024, .i1⟩
  | .hbm, ⟨3, _⟩ => ⟨S16x4096, .i1⟩
  | .hbm, ⟨4, _⟩ => ⟨S3x1024x16, .f32⟩
  | .hbm, ⟨5, _⟩ => ⟨S3x16x4096, .f32⟩
  | .hbm, ⟨6, _⟩ => ⟨S16x1024, .f32⟩
  | .hbm, ⟨7, _⟩ => ⟨S1024x16, .f32⟩
  | .hbm, ⟨8, _⟩ => ⟨S16x4096, .f32⟩
  | .hbm, ⟨9, _⟩ => ⟨S1024x16, .f32⟩
  | .hbm, ⟨10, _⟩ => ⟨S1024x16, .i32⟩
  | .local _ .vmem, ⟨0, _⟩ => ⟨S3x512x16, .f32⟩
  | .local _ .vmem, ⟨1, _⟩ => ⟨S3x512x16, .f32⟩
  | .local _ .vmem, ⟨2, _⟩ => ⟨S3x16x4096, .f32⟩
  | .local _ .vmem, ⟨3, _⟩ => ⟨S512x16, .f32⟩
  | .local _ .vmem, ⟨4, _⟩ => ⟨S512x16, .f32⟩
  | .local _ .vmem, ⟨5, _⟩ => ⟨S16x4096, .f32⟩
  | .local _ .vmem, ⟨6, _⟩ => ⟨S512x16, .f32⟩
  | .local _ .vmem, ⟨7, _⟩ => ⟨S512x16, .f32⟩
  | .local _ .vmem, ⟨8, _⟩ => ⟨S512x16, .i32⟩
  | .local _ .vmem, ⟨9, _⟩ => ⟨S512x16, .i32⟩
  | _, _ => ⟨S16x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x16 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "big" => some ⊤
  | _ => none
-- ==== ReferenceIdeal.lean ====
abbrev S16x1024x3 : Shape := ⟨3, ![16, 1024, 3]⟩
abbrev S16x4096x3 : Shape := ⟨3, ![16, 4096, 3]⟩
abbrev S16x1024 : Shape := ⟨2, ![16, 1024]⟩
abbrev S16x4096 : Shape := ⟨2, ![16, 4096]⟩
abbrev S_ : Shape := ⟨0, ![]⟩
abbrev S16x1024x4096 : Shape := ⟨3, ![16, 1024, 4096]⟩
abbrev S16x1024x1 : Shape := ⟨3, ![16, 1024, 1]⟩
abbrev S16x1x4096 : Shape := ⟨3, ![16, 1, 4096]⟩
abbrev S1024x4096 : Shape := ⟨2, ![1024, 4096]⟩
abbrev S3x1024x4096 : Shape := ⟨3, ![3, 1024, 4096]⟩
abbrev S1x1024x4096 : Shape := ⟨3, ![1, 1024, 4096]⟩
abbrev S1x1024x4096x1 : Shape := ⟨4, ![1, 1024, 4096, 1]⟩
abbrev S1 : Shape := ⟨1, ![1]⟩
abbrev S1x1x1x1 : Shape := ⟨4, ![1, 1, 1, 1]⟩
abbrev S1024x16 : Shape := ⟨2, ![1024, 16]⟩

abbrev nBuf : Space → Nat
  | .hbm => 84
  | .vmem => 0
  | .smem => 0
  | _ => 0

abbrev bufTy : (tb : Table) → Fin (tcTables nBuf tb) → BufTy
  | .hbm, ⟨0, _⟩ => ⟨S16x1024x3, .f32⟩
  | .hbm, ⟨1, _⟩ => ⟨S16x4096x3, .f32⟩
  | .hbm, ⟨2, _⟩ => ⟨S16x1024, .i1⟩
  | .hbm, ⟨3, _⟩ => ⟨S16x4096, .i1⟩
  | .hbm, ⟨4, _⟩ => ⟨S16x1024x3, .f32⟩
  | .hbm, ⟨5, _⟩ => ⟨S_, .f32⟩
  | .hbm, ⟨6, _⟩ => ⟨S16x1024, .f32⟩
  | .hbm, ⟨7, _⟩ => ⟨S16x4096x3, .f32⟩
  | .hbm, ⟨8, _⟩ => ⟨S_, .f32⟩
  | .hbm, ⟨9, _⟩ => ⟨S16x4096, .f32⟩
  | .hbm, ⟨10, _⟩ => ⟨S16x1024x4096, .f32⟩
  | .hbm, ⟨11, _⟩ => ⟨S16x1024x1, .f32⟩
  | .hbm, ⟨12, _⟩ => ⟨S16x1x4096, .f32⟩
  | .hbm, ⟨13, _⟩ => ⟨S16x1024x4096, .f32⟩
  | .hbm, ⟨14, _⟩ => ⟨S16x1024x4096, .f32⟩
  | .hbm, ⟨15, _⟩ => ⟨S16x1024x4096, .f32⟩
  | .hbm, ⟨16, _⟩ => ⟨S_, .f32⟩
  | .hbm, ⟨17, _⟩ => ⟨S16x1024x4096, .f32⟩
  | .hbm, ⟨18, _⟩ => ⟨S16x1024x4096, .f32⟩
  | .hbm, ⟨19, _⟩ => ⟨S16x1024x4096, .f32⟩
  | .hbm, ⟨20, _⟩ => ⟨S_, .f32⟩
  | .hbm, ⟨21, _⟩ => ⟨S16x1024x4096, .f32⟩
  | .hbm, ⟨22, _⟩ => ⟨S16x1024x4096, .f32⟩
  | .hbm, ⟨23, _⟩ => ⟨S16x1024x4096, .f32⟩
  | .hbm, ⟨24, _⟩ => ⟨S16x1024x1, .i1⟩
  | .hbm, ⟨25, _⟩ => ⟨S16x1x4096, .i1⟩
  | .hbm, ⟨26, _⟩ => ⟨S16x1024x4096, .i1⟩
  | .hbm, ⟨27, _⟩ => ⟨S16x1024x4096, .i1⟩
  | .hbm, ⟨28, _⟩ => ⟨S16x1024x4096, .i1⟩
  | .hbm, ⟨29, _⟩ => ⟨S16x1024x4096, .f32⟩
  | .hbm, ⟨30, _⟩ => ⟨S16x1024x4096, .f32⟩
  | .hbm, ⟨31, _⟩ => ⟨S_, .f32⟩
  | .hbm, ⟨32, _⟩ => ⟨S1024x4096, .f32⟩
  | .hbm, ⟨33, _⟩ => ⟨S_, .f32⟩
  | .hbm, ⟨34, _⟩ => ⟨S1024x4096, .f32⟩
  | .hbm, ⟨35, _⟩ => ⟨S1024x4096, .f32⟩
  | .hbm, ⟨36, _⟩ => ⟨S_, .f32⟩
  | .hbm, ⟨37, _⟩ => ⟨S1024x4096, .f32⟩
  | .hbm, ⟨38, _⟩ => ⟨S1024x4096, .f32⟩
  | .hbm, ⟨39, _⟩ => ⟨S1024x4096, .f32⟩
  | .hbm, ⟨40, _⟩ => ⟨S1024x4096, .i32⟩
  | .hbm, ⟨41, _⟩ => ⟨S_, .i32⟩
  | .hbm, ⟨42, _⟩ => ⟨S1024x4096, .i32⟩
  | .hbm, ⟨43, _⟩ => ⟨S1024x4096, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1024x4096, .i32⟩
  | .hbm, ⟨48, _⟩ => ⟨S1024x4096, .i32⟩
  | .hbm, ⟨49, _⟩ => ⟨S_, .i32⟩
  | .hbm, ⟨50, _⟩ => ⟨S1024x4096, .i32⟩
  | .hbm, ⟨51, _⟩ => ⟨S1024x4096, .i32⟩
  | .hbm, ⟨52, _⟩ => ⟨S16x1024x4096, .f32⟩
  | .hbm, ⟨53, _⟩ => ⟨S16x1024x4096, .f32⟩
  | .hbm, ⟨54, _⟩ => ⟨S16x1024x4096, .f32⟩
  | .hbm, ⟨55, _⟩ => ⟨S3x1024x4096, .f32⟩
  | .hbm, ⟨56, _⟩ => ⟨S1x1024x4096, .i32⟩
  | .hbm, ⟨57, _⟩ => ⟨S_, .i32⟩
  | .hbm, ⟨58, _⟩ => ⟨S1x1024x4096, .i32⟩
  | .hbm, ⟨59, _⟩ => ⟨S1x1024x4096, .i1⟩
  | .hbm, ⟨60, _⟩ => ⟨S_, .i32⟩
  | .hbm, ⟨61, _⟩ => ⟨S1x1024x4096, .i32⟩
  | .hbm, ⟨62, _⟩ => ⟨S1x1024x4096, .i32⟩
  | .hbm, ⟨63, _⟩ => ⟨S1x1024x4096, .i32⟩
  | .hbm, ⟨64, _⟩ => ⟨S1x1024x4096x1, .i32⟩
  | .hbm, ⟨65, _⟩ => ⟨S1, .i32⟩
  | .hbm, ⟨66, _⟩ => ⟨S_, .i32⟩
  | .hbm, ⟨67, _⟩ => ⟨S1x1024x4096x1, .i32⟩
  | .hbm, ⟨68, _⟩ => ⟨S1x1024x4096x1, .i1⟩
  | .hbm, ⟨69, _⟩ => ⟨S1x1x1x1, .i32⟩
  | .hbm, ⟨70, _⟩ => ⟨S1x1024x4096x1, .i32⟩
  | .hbm, ⟨71, _⟩ => ⟨S1x1024x4096x1, .i1⟩
  | .hbm, ⟨72, _⟩ => ⟨S1x1024x4096x1, .i1⟩
  | .hbm, ⟨73, _⟩ => ⟨S_, .i1⟩
  | .hbm, ⟨74, _⟩ => ⟨S1x1024x4096, .i1⟩
  | .hbm, ⟨75, _⟩ => ⟨S1x1024x4096, .f32⟩
  | .hbm, ⟨76, _⟩ => ⟨S_, .f32⟩
  | .hbm, ⟨77, _⟩ => ⟨S1x1024x4096, .f32⟩
  | .hbm, ⟨78, _⟩ => ⟨S1x1024x4096, .f32⟩
  | .hbm, ⟨79, _⟩ => ⟨S1024x4096, .f32⟩
  | .hbm, ⟨80, _⟩ => ⟨S1024x4096, .f32⟩
  | .hbm, ⟨81, _⟩ => ⟨S1024x16, .f32⟩
  | .hbm, ⟨82, _⟩ => ⟨S1024x16, .i32⟩
  | .hbm, ⟨83, _⟩ => ⟨S1024x16, .f32⟩
  | _, _ => ⟨S16x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_c_7 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_cst : Ref sig .tc := ⟨.hbm, 76, rfl⟩
abbrev main_call2_v14 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_values : Ref sig .tc := ⟨.hbm, 81, rfl⟩
abbrev main_indices : Ref sig .tc := ⟨.hbm, 82, rfl⟩
abbrev main_v41 : Ref sig .tc := ⟨.hbm, 83, rfl⟩

abbrev nD : Nat := 1
abbrev τ : Topo := Topo.v7x

variable {F : FTy → Type} [FloatOps F]
-- ==== Proof.KBody.lean ====
module

public import proofs.«01_k».proof.Proof.Gen.KernelIdeal.Frame

@[expose] public section

/-! # The kernel body as whole arrays

The printed body is a long straight line of array operations. This file names the few arrays that matter and
shows that the body computes them: the squared distance of one time slot, the running first, second and third
largest over the slots, the distance of a pair of players, and the sixteen rounds that each take the least entry
of a row out of the distances. Nothing here depends on the float instance. -/

set_option maxRecDepth 16384

noncomputable section

namespace Cert.Knn

open Idealize.ShloMosaic Cert.KernelIdeal Cert.KernelIdeal.Gen

variable {F : FTy → Type} [FloatOps F] [Named F]

/-! ## The distances -/

/-- A column of the left operand's sixteen slots is inside it. -/
theorem slicesLeft (t : ℕ) : S512x16.Slices ![0, t % 16] S512x1 := by
  have h : t % 16 < 16 := Nat.mod_lt _ (by decide)
  generalize t % 16 = a at h
  interval_cases a <;> decide

/-- A row of the right operand's sixteen slots is inside it. -/
theorem slicesRight (t : ℕ) : S16x4096.Slices ![t % 16, 0] S1x4096 := by
  have h : t % 16 < 16 := Nat.mod_lt _ (by decide)
  generalize t % 16 = a at h
  interval_cases a <;> decide

/-- Slot `t` of a left operand, spread over every pair. -/
def spreadLeft (a : FVec F S512x16 .f32) (t : ℕ) : FVec F S512x4096 .f32 :=
  broadcastTo S512x4096 (extractStridedSlice S512x1 ![0, t % 16] a (slicesLeft t)) broadcasts_S512x1_S512x4096

/-- Slot `t` of a right operand, spread over every pair. -/
def spreadRight (b : FVec F S16x4096 .f32) (t : ℕ) : FVec F S512x4096 .f32 :=
  broadcastTo S512x4096 (extractStridedSlice S1x4096 ![t % 16, 0] b (slicesRight t)) broadcasts_S1x4096_S512x4096

variable (x0 : Vec F S3x512x16 .f32) (x1 : Vec F S3x16x4096 .f32) (x2 : Vec F S512x16 .f32)
  (x3 : Vec F S16x4096 .f32)

/-- The penalised squared distance of every pair at slot `t`. -/
def slotV (t : ℕ) : FVec F S512x4096 .f32 :=
  subf (addf (spreadLeft (k0_pay195 x0 x1 x2 x3) t) (spreadRight (k0_pay196 x0 x1 x2 x3) t))
    (mulf (broadcast S512x4096 (Scalar.ofBits .f32 0x40000000#32))
      (addf (addf (mulf (spreadLeft (k0_pay188 x0 x1 x2 x3) t) (spreadRight (k0_pay191 x0 x1 x2 x3) t))
        (mulf (spreadLeft (k0_pay189 x0 x1 x2 x3) t) (spreadRight (k0_pay192 x0 x1 x2 x3) t)))
        (mulf (spreadLeft (k0_pay190 x0 x1 x2 x3) t) (spreadRight (k0_pay194 x0 x1 x2 x3) t))))

/-- The largest over the slots `0 … n`. -/
def largest (n : ℕ) : FVec F S512x4096 .f32 :=
  match n with
  | 0 => slotV x0 x1 x2 x3 0
  | n + 1 => maximumf (largest n) (slotV x0 x1 x2 x3 (n + 1))

/-- The second largest over the slots `0 … n + 1`. -/
def second (n : ℕ) : FVec F S512x4096 .f32 :=
  match n with
  | 0 => minimumf (slotV x0 x1 x2 x3 1) (largest x0 x1 x2 x3 0)
  | n + 1 => maximumf (second n) (minimumf (slotV x0 x1 x2 x3 (n + 2)) (largest x0 x1 x2 x3 (n + 1)))

/-- The third largest over the slots `0 … n + 2`. -/
def third (n : ℕ) : FVec F S512x4096 .f32 :=
  match n with
  | 0 => minimumf (slotV x0 x1 x2 x3 2) (second x0 x1 x2 x3 0)
  | n + 1 => maximumf (third n) (minimumf (slotV x0 x1 x2 x3 (n + 3)) (second x0 x1 x2 x3 (n + 1)))

theorem largest_2 : k0_pay203 x0 x1 x2 x3 = largest x0 x1 x2 x3 2 := rfl
theorem second_2 : k0_pay202 x0 x1 x2 x3 = second x0 x1 x2 x3 1 := rfl

theorem largest_4 : k0_pay206 x0 x1 x2 x3 = largest x0 x1 x2 x3 4 := by
  unfold k0_pay206; rw [largest_2]; rfl
theorem second_4 : k0_pay205 x0 x1 x2 x3 = second x0 x1 x2 x3 3 := by
  unfold k0_pay205; rw [largest_2, second_2]; rfl

theorem largest_6 : k0_pay211 x0 x1 x2 x3 = largest x0 x1 x2 x3 6 := by
  unfold k0_pay211; rw [largest_4]; rfl
theorem second_6 : k0_pay210 x0 x1 x2 x3 = second x0 x1 x2 x3 5 := by
  unfold k0_pay210; rw [largest_4, second_4]; rfl

theorem largest_8 : k0_pay216 x0 x1 x2 x3 = largest x0 x1 x2 x3 8 := by
  unfold k0_pay216; rw [largest_6]; rfl
theorem second_8 : k0_pay215 x0 x1 x2 x3 = second x0 x1 x2 x3 7 := by
  unfold k0_pay215; rw [largest_6, second_6]; rfl

theorem largest_10 : k0_pay223 x0 x1 x2 x3 = largest x0 x1 x2 x3 10 := by
  unfold k0_pay223; rw [largest_8]; rfl
theorem second_10 : k0_pay222 x0 x1 x2 x3 = second x0 x1 x2 x3 9 := by
  unfold k0_pay222; rw [largest_8, second_8]; rfl

theorem largest_12 : k0_pay230 x0 x1 x2 x3 = largest x0 x1 x2 x3 12 := by
  unfold k0_pay230; rw [largest_10]; rfl
theorem second_12 : k0_pay229 x0 x1 x2 x3 = second x0 x1 x2 x3 11 := by
  unfold k0_pay229; rw [largest_10, second_10]; rfl

theorem largest_14 : k0_pay239 x0 x1 x2 x3 = largest x0 x1 x2 x3 14 := by
  unfold k0_pay239; rw [largest_12]; rfl
theorem second_14 : k0_pay238 x0 x1 x2 x3 = second x0 x1 x2 x3 13 := by
  unfold k0_pay238; rw [largest_12, second_12]; rfl

theorem third_14 : k0_pay237 x0 x1 x2 x3 = third x0 x1 x2 x3 12 := by
  unfold k0_pay237
  rw [second_2, largest_2, second_4, largest_4, second_6, largest_6, second_8, largest_8, second_10, largest_10,
    second_12, largest_12]
  rfl

/-- The distance of every pair: the root of the largest, second or third largest squared distance, as the number of
    shared slots says, and nought where no slot is shared. -/
def distV : FVec F S512x4096 .f32 :=
  select (cmpf .oeq (k0_pay197 x0 x1 x2 x3) (broadcast S512x4096 (Scalar.ofBits .f32 0x00000000#32)))
    (broadcast S512x4096 (Scalar.ofBits .f32 0x00000000#32))
    (sqrt (maximumf
      (select (cmpf .ole (k0_pay197 x0 x1 x2 x3) (broadcast S512x4096 (Scalar.ofBits .f32 0x40A00000#32)))
        (largest x0 x1 x2 x3 15)
        (select (cmpf .ole (k0_pay197 x0 x1 x2 x3) (broadcast S512x4096 (Scalar.ofBits .f32 0x41200000#32)))
          (second x0 x1 x2 x3 14) (third x0 x1 x2 x3 13)))
      (broadcast S512x4096 (Scalar.ofBits .f32 0x2B8CBCCC#32))))

theorem distV_eq : k0_pay245 x0 x1 x2 x3 = distV x0 x1 x2 x3 := by
  unfold k0_pay245; rw [largest_14, second_14, third_14]; rfl

/-! ## The rounds -/

/-- The least entry of each row, taken over the four quarters of the columns first. -/
def leastV (d : FVec F S512x4096 .f32) : FVec F S512x1 .f32 :=
  shapeCast S512x1 (multiReduction .minimumf [1] S512
    (minimumf
      (minimumf (extractStridedSlice S512x1024 ![0, 0] d slices_S512x4096_o0_0_S512x1024)
        (extractStridedSlice S512x1024 ![0, 1024] d slices_S512x4096_o0_1024_S512x1024))
      (minimumf (extractStridedSlice S512x1024 ![0, 2048] d slices_S512x4096_o0_2048_S512x1024)
        (extractStridedSlice S512x1024 ![0, 3072] d slices_S512x4096_o0_3072_S512x1024)))
    0x7F800000#32 reduces_S512x1024_S512 (.inl rfl) rfl) shapeCasts_S512_S512x1

/-- The column number where the entry is its row's least, and 4096 elsewhere. -/
def candV (d : FVec F S512x4096 .f32) : FVec F S512x4096 .f32 :=
  select (cmpf .oeq d (broadcastTo S512x4096 (leastV d) broadcasts_S512x1_S512x4096))
    (sitofp .f32 (iota .tc S512x4096 32 [1] iota_S512x4096_d1_w32))
    (broadcast S512x4096 (Scalar.ofBits .f32 0x45800000#32))

/-- The first column holding its row's least entry. -/
def pickV (d : FVec F S512x4096 .f32) : FVec F S512x1 .f32 := leastV (candV d)

/-- The distances with the picked entry of each row put out of the way. -/
def nextV (d : FVec F S512x4096 .f32) : FVec F S512x4096 .f32 :=
  select (cmpf .oeq (candV d) (broadcastTo S512x4096 (pickV d) broadcasts_S512x1_S512x4096))
    (broadcast S512x4096 (Scalar.ofBits .f32 0x7F800000#32)) d

/-- The distances before round `r`. -/
def roundV (r : ℕ) : FVec F S512x4096 .f32 :=
  match r with
  | 0 => distV x0 x1 x2 x3
  | r + 1 => nextV (roundV r)

/-- Where an entry of round `r` is its row's least. -/
def maskV (d : FVec F S512x4096 .f32) : IVec S512x4096 1 :=
  cmpf .oeq d (broadcastTo S512x4096 (leastV d) broadcasts_S512x1_S512x4096)

theorem round_0 : k0_pay245 x0 x1 x2 x3 = roundV x0 x1 x2 x3 0 := distV_eq x0 x1 x2 x3
theorem mask_0 : k0_pay247 x0 x1 x2 x3 = maskV (roundV x0 x1 x2 x3 0) := by
  rw [← round_0]; rfl
theorem round_2 : k0_pay249 x0 x1 x2 x3 = roundV x0 x1 x2 x3 2 := by
  unfold k0_pay249; rw [round_0, mask_0]; rfl
theorem mask_2 : k0_pay250 x0 x1 x2 x3 = maskV (roundV x0 x1 x2 x3 2) := by
  unfold k0_pay250; rw [round_0, mask_0]; rfl
theorem round_4 : k0_pay252 x0 x1 x2 x3 = roundV x0 x1 x2 x3 4 := by
  unfold k0_pay252; rw [round_2, mask_2]; rfl
theorem mask_4 : k0_pay253 x0 x1 x2 x3 = maskV (roundV x0 x1 x2 x3 4) := by
  unfold k0_pay253; rw [round_2, mask_2]; rfl
theorem round_6 : k0_pay255 x0 x1 x2 x3 = roundV x0 x1 x2 x3 6 := by
  unfold k0_pay255; rw [round_4, mask_4]; rfl
theorem mask_6 : k0_pay256 x0 x1 x2 x3 = maskV (roundV x0 x1 x2 x3 6) := by
  unfold k0_pay256; rw [round_4, mask_4]; rfl
theorem round_8 : k0_pay258 x0 x1 x2 x3 = roundV x0 x1 x2 x3 8 := by
  unfold k0_pay258; rw [round_6, mask_6]; rfl
theorem mask_8 : k0_pay259 x0 x1 x2 x3 = maskV (roundV x0 x1 x2 x3 8) := by
  unfold k0_pay259; rw [round_6, mask_6]; rfl
theorem round_10 : k0_pay261 x0 x1 x2 x3 = roundV x0 x1 x2 x3 10 := by
  unfold k0_pay261; rw [round_8, mask_8]; rfl
theorem mask_10 : k0_pay262 x0 x1 x2 x3 = maskV (roundV x0 x1 x2 x3 10) := by
  unfold k0_pay262; rw [round_8, mask_8]; rfl
theorem round_12 : k0_pay264 x0 x1 x2 x3 = roundV x0 x1 x2 x3 12 := by
  unfold k0_pay264; rw [round_10, mask_10]; rfl
theorem mask_12 : k0_pay265 x0 x1 x2 x3 = maskV (roundV x0 x1 x2 x3 12) := by
  unfold k0_pay265; rw [round_10, mask_10]; rfl
theorem round_14 : k0_pay267 x0 x1 x2 x3 = roundV x0 x1 x2 x3 14 := by
  unfold k0_pay267; rw [round_12, mask_12]; rfl
theorem mask_14 : k0_pay268 x0 x1 x2 x3 = maskV (roundV x0 x1 x2 x3 14) := by
  unfold k0_pay268; rw [round_12, mask_12]; rfl
theorem least_15 : k0_pay270 x0 x1 x2 x3 = leastV (roundV x0 x1 x2 x3 15) := by
  unfold k0_pay270; rw [round_14, mask_14]; rfl

/-! ## The stored blocks -/

/-- Sixteen columns side by side. -/
def columns (c : ℕ → FVec F S512x1 .f32) : FVec F S512x16 .f32 :=
  k0_pay183 (c 0) (c 1) (c 2) (c 3) (c 4) (c 5) (c 6) (c 7) (c 8) (c 9) (c 10) (c 11) (c 12) (c 13) (c 14) (c 15)

/-- The first stored block: the least entry of each round. -/
theorem out4_eq : out0_4 x0 x1 x2 x3
    = View.canon [⟨r0_6, columns fun r => leastV (roundV x0 x1 x2 x3 r)⟩] := by
  have h0 : k0_pay105 (k0_pay194 x0 x1 x2 x3) (k0_pay195 x0 x1 x2 x3) (k0_pay196 x0 x1 x2 x3)
      (k0_pay197 x0 x1 x2 x3) (k0_pay237 x0 x1 x2 x3) (k0_pay238 x0 x1 x2 x3) (k0_pay239 x0 x1 x2 x3)
      (k0_pay240 x0 x1 x2 x3) (k0_pay241 x0 x1 x2 x3) (k0_pay242 x0 x1 x2 x3) (k0_pay243 x0 x1 x2 x3)
      (k0_pay244 x0 x1 x2 x3) = leastV (roundV x0 x1 x2 x3 0) := by
    rw [← round_0]; rfl
  unfold out0_4
  rw [h0, round_0, mask_0, round_2, mask_2, round_4, mask_4, round_6, mask_6, round_8, mask_8, round_10, mask_10,
    round_12, mask_12, least_15]
  rfl

/-- The second stored block: the column picked in each round, as an integer. -/
theorem out5_eq : out0_5 x0 x1 x2 x3
    = View.canon [⟨r0_6, fptosi 32 (columns fun r => pickV (roundV x0 x1 x2 x3 r))⟩] := by
  unfold out0_5
  rw [round_0, mask_0, round_2, mask_2, round_4, mask_4, round_6, mask_6, round_8, mask_8, round_10, mask_10,
    round_12, mask_12, round_14, mask_14, least_15]
  rfl

end Cert.Knn
-- ==== Proof.Rounds.lean ====
module

public import Idealize.ShloMosaic.Lib.SortPrefix
public import Mathlib.Data.EReal.Basic

/-!
# Repeated "least entry, first position, remove it" is the stable sort's prefix

The kernel finds the nearest neighbours of a row in rounds: the least distance, the first column that holds it, and
that column overwritten with `⊤`. The reference sorts the row stably. This file says, of any row of finite entries, that
both select the same columns in the same order. It knows nothing of the programs.
-/

@[expose] public section

namespace Cert.Knn

open Idealize.ShloMosaic

/-- `a` is the first position at which the row `d` attains its least entry. -/
structure IsFirstMin {n : ℕ} (d : Fin n → EReal) (a : Fin n) : Prop where
  /-- Nothing in the row is less. -/
  le : ∀ j, d a ≤ d j
  /-- No earlier position holds the same entry. -/
  first : ∀ j, d j = d a → a ≤ j

/-- The strict total order on positions: the lesser entry first, equal entries in position order. -/
noncomputable def lexBefore {n : ℕ} (D : Fin n → EReal) (k k' : Fin n) : Bool :=
  decide (D k < D k') || (decide (D k = D k') && decide (k < k'))

/-- `lexBefore` as a proposition. -/
theorem lexBefore_iff {n : ℕ} (D : Fin n → EReal) (k k' : Fin n) :
    lexBefore D k k' = true ↔ D k < D k' ∨ (D k = D k' ∧ k < k') := by
  simp [lexBefore]

/-- `lexBefore` is a strict total order. -/
theorem strictTotal_lexBefore {n : ℕ} (D : Fin n → EReal) : StrictTotalBefore (lexBefore D) := by
  have h := StrictTotalBefore.of_key_then_position (fun a b : EReal => decide (a < b)) D (fun a => by simp)
    (fun a b c hab hbc => by simp only [decide_eq_true_eq] at *; exact hab.trans hbc)
    (fun a b => by simpa only [decide_eq_true_eq] using lt_trichotomy a b)
  exact h

/-- A first least position is not after any other. -/
theorem IsFirstMin.not_after {n : ℕ} {d : Fin n → EReal} {a : Fin n} (h : IsFirstMin d a) (j : Fin n) :
    lexBefore d j a = false := by
  rw [Bool.eq_false_iff, ne_eq, lexBefore_iff]
  rintro (hlt | ⟨heq, hlt⟩)
  · exact absurd (h.le j) (not_le.mpr hlt)
  · exact absurd (h.first j heq) (not_le.mpr hlt)

/-- Sorting an increasing list of positions stably by the entries alone is sorting it by the entry and then the
    position. -/
theorem stableSort_eq_lex {n : ℕ} (D : Fin n → EReal) (R : Fin n → Fin n → Bool)
    (hR : ∀ k k', R k k' = decide (D k < D k')) (l : List (Fin n)) (hl : l.Pairwise (· < ·)) :
    stableSort R l = stableSort (lexBefore D) l := by
  induction l with
  | nil => rfl
  | cons a l ih =>
    rw [List.pairwise_cons] at hl
    unfold stableSort
    rw [ih hl.2]
    refine insertBefore_congr _ _ _ _ fun b hb => ?_
    have hb' : b ∈ l := (perm_stableSort _ l).mem_iff.mp hb
    have hab := hl.1 b hb'
    rw [hR, lexBefore, decide_eq_false (p := b < a) (not_lt.mpr hab.le)]
    simp

/-- The stable sort's source positions, by the entries alone, are those by the entry and then the position. -/
theorem sortedFrom_eq_lex {n : ℕ} (D : Fin n → EReal) (R : Fin n → Fin n → Bool)
    (hR : ∀ k k', R k k' = decide (D k < D k')) : sortedFrom R = sortedFrom (lexBefore D) := by
  have h : sortPositions n R = sortPositions n (lexBefore D) :=
    stableSort_eq_lex D R hR _ (by simpa [List.sortedLT_iff_pairwise] using List.sortedLT_finRange n)
  funext k
  unfold sortedFrom
  rw [List.get_of_eq h]
  rfl

section Rounds

variable {n k : ℕ} (D : Fin n → EReal) (d : ℕ → Fin n → EReal) (σ : ℕ → Fin n)

/-- What the rounds satisfy: they start at the row, each picks the first least position, and the next row has `⊤`
    there. -/
structure IsRounds (k : ℕ) : Prop where
  /-- The first round reads the row itself. -/
  zero : d 0 = D
  /-- Each round picks the first least position of its row. -/
  pick : ∀ r < k, IsFirstMin (d r) (σ r)
  /-- The next row is this one with `⊤` at the picked position. -/
  next : ∀ r < k, ∀ j, d (r + 1) j = if j = σ r then ⊤ else d r j

variable {D d σ}

/-- A position no earlier round picked still holds its first entry. -/
theorem IsRounds.unpicked (h : IsRounds D d σ k) : ∀ r ≤ k, ∀ j, (∀ i < r, σ i ≠ j) → d r j = D j
  | 0, _, j, _ => by rw [h.zero]
  | r + 1, hr, j, hj => by
    rw [h.next r (by omega) j, if_neg (fun e => hj r (by omega) e.symm)]
    exact h.unpicked r (by omega) j fun i hi => hj i (by omega)

/-- A position some earlier round picked holds `⊤`. -/
theorem IsRounds.picked (h : IsRounds D d σ k) : ∀ r ≤ k, ∀ i < r, d r (σ i) = ⊤
  | 0, _, i, hi => absurd hi (by omega)
  | r + 1, hr, i, hi => by
    rw [h.next r (by omega)]
    split
    · rfl
    · rename_i hne
      have hir : i < r := by
        rcases Nat.lt_succ_iff_lt_or_eq.mp hi with h' | h'
        · exact h'
        · subst h'; exact absurd rfl hne
      exact h.picked r (by omega) i hir

/-- On a finite row, a round picks a position no earlier round picked. -/
theorem IsRounds.fresh (h : IsRounds D d σ k) (hk : k ≤ n) (hD : ∀ j, D j ≠ ⊤) (r : ℕ) (hr : r < k) (i : ℕ) (hi : i < r) :
    σ i ≠ σ r := by
  intro he
  have htop : d r (σ r) = ⊤ := by rw [← he]; exact h.picked r hr.le i hi
  obtain ⟨j, hj⟩ : ∃ j : Fin n, j ∉ (Finset.range r).image σ := by
    by_contra hall
    push Not at hall
    have hsub : (Finset.univ : Finset (Fin n)) ⊆ (Finset.range r).image σ := fun j _ => hall j
    have hc := (Finset.card_le_card hsub).trans Finset.card_image_le
    rw [Finset.card_univ, Fintype.card_fin, Finset.card_range] at hc
    omega
  have hj' : d r j = D j := h.unpicked r hr.le j fun i hi e =>
    hj (Finset.mem_image.mpr ⟨i, Finset.mem_range.mpr hi, e⟩)
  have hle := (h.pick r hr).le j
  rw [htop, hj', top_le_iff] at hle
  exact hD j hle

/-- On a finite row, the entry at a round's pick is the row's own. -/
theorem IsRounds.value (h : IsRounds D d σ k) (hk : k ≤ n) (hD : ∀ j, D j ≠ ⊤) (r : ℕ) (hr : r < k) :
    d r (σ r) = D (σ r) :=
  h.unpicked r hr.le _ fun i hi => h.fresh hk hD r hr i hi

/-- A position unpicked when round `r` runs is not before that round's pick. -/
theorem IsRounds.not_before (h : IsRounds D d σ k) (hk : k ≤ n) (hD : ∀ j, D j ≠ ⊤) (r : ℕ) (hr : r < k) (j : Fin n)
    (hj : ∀ i < r, σ i ≠ j) : lexBefore D j (σ r) = false := by
  have hn := (h.pick r hr).not_after j
  unfold lexBefore at hn ⊢
  rwa [h.value hk hD r hr, h.unpicked r hr.le j hj] at hn

/-- The rounds' picks are the first positions of the stable sort of the row. -/
theorem IsRounds.sortedFrom_eq (h : IsRounds D d σ k) (hk : k ≤ n) (hD : ∀ j, D j ≠ ⊤) (i : Fin k) :
    sortedFrom (lexBefore D) (i.castLE hk) = σ i := by
  have hfresh : ∀ i j : Fin k, i < j → σ i ≠ σ j := fun i j hij => h.fresh hk hD j j.isLt i hij
  refine (strictTotal_lexBefore D).sortedFrom_eq_of_prefix hk (fun i : Fin k => σ i) ?_ ?_ ?_ i
  · intro i j hij
    rcases lt_trichotomy i j with hlt | heq | hlt
    · exact absurd hij (hfresh i j hlt)
    · exact heq
    · exact absurd hij.symm (hfresh j i hlt)
  · intro i j hij
    exact h.not_before hk hD i i.isLt (σ j) fun l hl => hfresh ⟨l, by omega⟩ j (lt_trans (Fin.mk_lt_of_lt_val hl) hij)
  · intro i p hp
    exact h.not_before hk hD i i.isLt p fun l hl => hp ⟨l, by omega⟩

end Rounds

end Cert.Knn
-- ==== Proof.Kth.lean ====
module

public import proofs.«01_k».proof.Proof.Rounds
public import Mathlib.Data.EReal.Operations

/-!
# The k-th greatest of sixteen entries, three ways

The kernel keeps the three greatest entries of a column in a running chain of maxima and minima; the reference sorts the
column stably and reads a position. `IsKth` says "`y` is the entry of rank `k`" by thresholds, so that both readings have it
and it determines `y`. It knows nothing of the programs.
-/

@[expose] public section

namespace Cert.Knn

open Idealize.ShloMosaic

/-- How many of the entries are at least `x`. -/
noncomputable def atLeast {n : ℕ} (u : Fin n → EReal) (x : EReal) : ℕ := (Finset.univ.filter fun t => x ≤ u t).card

/-- `y` is the entry of rank `k` from the top (rank 0 the greatest): a threshold is at most `y` exactly when more than `k`
    entries reach it. -/
def IsKth {n : ℕ} (k : ℕ) (u : Fin n → EReal) (y : EReal) : Prop := ∀ x, x ≤ y ↔ k < atLeast u x

/-- The rank determines the entry. -/
theorem IsKth.unique {n k : ℕ} {u : Fin n → EReal} {y z : EReal} (hy : IsKth k u y) (hz : IsKth k u z) : y = z :=
  le_antisymm ((hz y).mpr ((hy y).mp le_rfl)) ((hy z).mpr ((hz z).mp le_rfl))

/-- A monotone function takes the entry of rank `k` to the entry of rank `k`. -/
theorem IsKth.map {n k : ℕ} {u : Fin n → EReal} {y : EReal} (h : IsKth k u y) (g : EReal → EReal) (hg : Monotone g) :
    IsKth k (fun t => g (u t)) (g y) := by
  intro x
  constructor
  · intro hx
    refine lt_of_lt_of_le ((h y).mp le_rfl) (Finset.card_le_card fun t ht => ?_)
    simp only [Finset.mem_filter, Finset.mem_univ, true_and] at ht ⊢
    exact hx.trans (hg ht)
  · intro hx
    by_contra hlt
    rw [not_le] at hlt
    have hsub : ∀ t, x ≤ g (u t) → y < u t := fun t ht => by
      by_contra hle
      exact absurd (ht.trans (hg (not_lt.mp hle))) (not_le.mpr hlt)
    have hne : (Finset.univ.filter fun t => x ≤ g (u t)).Nonempty := Finset.card_pos.mp (Nat.zero_lt_of_lt hx)
    obtain ⟨t₀, ht₀, hmin⟩ := Finset.exists_min_image _ u hne
    have hk : k < atLeast u (u t₀) := lt_of_lt_of_le hx (Finset.card_le_card fun t ht => by
      have := hmin t ht
      simpa using this)
    have := (h (u t₀)).mpr hk
    exact absurd this (not_le.mpr (hsub t₀ (by simpa using ht₀)))

/-- An entry of rank `k` is at least any bound that more than `k` entries reach. -/
theorem IsKth.ge {n k : ℕ} {u : Fin n → EReal} {y x : EReal} (h : IsKth k u y) (hx : k < atLeast u x) : x ≤ y := (h x).mpr hx

/-! ## The running chain -/

/-- The greatest of the first `n + 1` entries. -/
noncomputable def top1 (u : ℕ → EReal) : ℕ → EReal
  | 0 => u 0
  | n + 1 => max (top1 u n) (u (n + 1))

/-- The second greatest of the first `n + 2` entries. -/
noncomputable def top2 (u : ℕ → EReal) : ℕ → EReal
  | 0 => min (u 1) (top1 u 0)
  | n + 1 => max (top2 u n) (min (u (n + 2)) (top1 u (n + 1)))

/-- The third greatest of the first `n + 3` entries. -/
noncomputable def top3 (u : ℕ → EReal) : ℕ → EReal
  | 0 => min (u 2) (top2 u 0)
  | n + 1 => max (top3 u n) (min (u (n + 3)) (top2 u (n + 1)))

/-- How many of the first `n` entries are at least `x`. -/
noncomputable def countTo (u : ℕ → EReal) (x : EReal) : ℕ → ℕ
  | 0 => 0
  | n + 1 => countTo u x n + if x ≤ u n then 1 else 0

/-- One more entry counts once if it reaches the threshold. -/
theorem countTo_succ (u : ℕ → EReal) (x : EReal) (n : ℕ) :
    countTo u x (n + 1) = countTo u x n + if x ≤ u n then 1 else 0 := rfl

/-- No more entries reach a threshold than there are. -/
theorem countTo_le (u : ℕ → EReal) (x : EReal) (n : ℕ) : countTo u x n ≤ n := by
  induction n with
  | zero => simp [countTo]
  | succ n ih => unfold countTo; split <;> omega

/-- `top1` has rank 0. -/
theorem le_top1 (u : ℕ → EReal) (x : EReal) (n : ℕ) : x ≤ top1 u n ↔ 0 < countTo u x (n + 1) := by
  induction n with
  | zero => unfold top1; simp only [countTo]; split <;> simp_all
  | succ n ih =>
    unfold top1 countTo
    rw [le_max_iff, ih]
    split <;> simp_all

/-- `top2` has rank 1. -/
theorem le_top2 (u : ℕ → EReal) (x : EReal) (n : ℕ) : x ≤ top2 u n ↔ 1 < countTo u x (n + 2) := by
  induction n with
  | zero =>
    unfold top2
    rw [le_min_iff, le_top1]
    simp only [countTo]
    split_ifs <;> simp_all
  | succ n ih =>
    unfold top2
    rw [le_max_iff, le_min_iff, ih, le_top1, countTo_succ u x (n + 2)]
    split_ifs with h
    · simp only [h, true_and, Nat.add_assoc, Nat.reduceAdd]; omega
    · simp only [h, false_and, or_false, Nat.add_assoc, Nat.reduceAdd, Nat.add_zero]

/-- `top3` has rank 2. -/
theorem le_top3 (u : ℕ → EReal) (x : EReal) (n : ℕ) : x ≤ top3 u n ↔ 2 < countTo u x (n + 3) := by
  induction n with
  | zero =>
    unfold top3
    have hle := countTo_le u x 2
    rw [le_min_iff, le_top2, Nat.zero_add, Nat.zero_add, countTo_succ u x 2]
    split_ifs with h
    · simp only [h, true_and]; omega
    · simp only [h, false_and, false_iff]; omega
  | succ n ih =>
    unfold top3
    rw [le_max_iff, le_min_iff, ih, le_top2, countTo_succ u x (n + 3)]
    split_ifs with h
    · simp only [h, true_and, Nat.add_assoc, Nat.reduceAdd]; omega
    · simp only [h, false_and, or_false, Nat.add_assoc, Nat.reduceAdd, Nat.add_zero]

/-- The count over the first `n` entries is the count over `Fin n`. -/
theorem countTo_eq (u : ℕ → EReal) (x : EReal) (n : ℕ) : countTo u x n = atLeast (fun t : Fin n => u t) x := by
  have h : atLeast (fun t : Fin n => u t) x = ∑ t : Fin n, if x ≤ u t then 1 else 0 := by
    unfold atLeast; rw [Finset.card_filter]
  rw [h]
  clear h
  induction n with
  | zero => simp [countTo]
  | succ n ih => rw [Fin.sum_univ_castSucc]; simp [countTo, ih]

/-- The chain's greatest, of sixteen. -/
theorem isKth_top1 (u : ℕ → EReal) : IsKth 0 (fun t : Fin 16 => u t) (top1 u 15) := fun x => by
  rw [le_top1, ← countTo_eq]

/-- The chain's second, of sixteen. -/
theorem isKth_top2 (u : ℕ → EReal) : IsKth 1 (fun t : Fin 16 => u t) (top2 u 14) := fun x => by
  rw [le_top2, ← countTo_eq]

/-- The chain's third, of sixteen. -/
theorem isKth_top3 (u : ℕ → EReal) : IsKth 2 (fun t : Fin 16 => u t) (top3 u 13) := fun x => by
  rw [le_top3, ← countTo_eq]

/-! ## The sort -/

/-- Position `k` of the stable ascending sort of the negated entries, negated back, has rank `k`. -/
theorem isKth_sorted {n : ℕ} (v : Fin n → EReal) (R : Fin n → Fin n → Bool)
    (hR : ∀ k k', R k k' = decide (-v k < -v k')) (k : Fin n) : IsKth k v (- -v (sortedFrom R k)) := by
  rw [sortedFrom_eq_lex (fun t => -v t) R hR, neg_neg]
  set p := sortedFrom (lexBefore fun t => -v t) with hp
  have hord : ∀ i j : Fin n, i ≤ j → v (p j) ≤ v (p i) := by
    intro i j hij
    rcases hij.eq_or_lt with rfl | hlt
    · exact le_rfl
    · have hB := strictTotal_lexBefore fun t => -v t
      have := sortedFrom_noInversion (lexBefore fun t => -v t) (lexBefore fun t => -v t) (fun a b h => hB.asymm a b h)
        (fun _ _ h => h) hB.negTrans i j hlt
      rw [Bool.eq_false_iff, ne_eq, lexBefore_iff, not_or] at this
      exact EReal.neg_le_neg_iff.mp (not_lt.mp this.1)
  have hinj : Function.Injective p := sortedFrom_injective _
  have hsurj : Function.Surjective p := sortedFrom_surjective _
  intro x
  have hc : atLeast v x = (Finset.univ.filter fun i => x ≤ v (p i)).card := by
    unfold atLeast
    refine (Finset.card_bij (fun i _ => p i) ?_ ?_ ?_).symm
    · intro i hi; simpa using hi
    · intro i _ j _ h; exact hinj h
    · intro t ht
      obtain ⟨i, rfl⟩ := hsurj t
      exact ⟨i, by simpa using ht, rfl⟩
  rw [hc]
  constructor
  · intro hx
    have hsub : Finset.Iic k ⊆ Finset.univ.filter fun i => x ≤ v (p i) := fun i hi => by
      simp only [Finset.mem_filter, Finset.mem_univ, true_and]
      exact hx.trans (hord i k (Finset.mem_Iic.mp hi))
    have := Finset.card_le_card hsub
    rw [Fin.card_Iic] at this
    omega
  · intro hx
    by_contra hlt
    have hsub : (Finset.univ.filter fun i => x ≤ v (p i)) ⊆ Finset.Iio k := fun i hi => by
      simp only [Finset.mem_filter, Finset.mem_univ, true_and] at hi
      rw [Finset.mem_Iio]
      by_contra hge
      exact hlt (hi.trans (hord k i (not_lt.mp hge)))
    have := Finset.card_le_card hsub
    rw [Fin.card_Iio] at this
    omega

end Cert.Knn
-- ==== Proof.Pair.lean ====
module

public import proofs.«01_k».proof.Proof.Kth
public import Idealize.ShloMosaic.PureOps.Ideal.Laws

@[expose] public section

/-! # The distance of one pair of players

Sixteen slots, each shared or not. The kernel puts an unshared slot's squared distance at the bottom, takes the
largest, second or third largest of the sixteen and roots it. The reference roots first, puts zero at an unshared
slot, and sorts. Rooting keeps the order, so both pick the entry of the same rank, and the rank is always below the
number of shared slots. -/

noncomputable section

namespace Cert.Knn

open Idealize.ShloMosaic

/-! ## The constants -/

/-- The floor under a squared distance. -/
def floor2 : EReal := Ideal.ofBits .f32 0x2B8CBCCC#32

/-- The floor is a positive real. -/
theorem floor2_real : ∃ r : ℝ, 0 < r ∧ floor2 = (r : EReal) := by
  refine ⟨_, ?_, by simp [floor2, Ideal.ofBits, Ideal.ieee]; rfl⟩
  norm_num

theorem ofBits_two : Ideal.ofBits .f32 0x40000000#32 = ((2 : ℝ) : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num
theorem ofBits_five : Ideal.ofBits .f32 0x40A00000#32 = ((5 : ℝ) : EReal) := by
  simp [Ideal.ofBits, Ideal.ieee, -EReal.coe_mul]; norm_num
theorem ofBits_ten : Ideal.ofBits .f32 0x41200000#32 = ((10 : ℝ) : EReal) := by
  simp [Ideal.ofBits, Ideal.ieee, -EReal.coe_mul]; norm_num
theorem ofBits_sixteen : Ideal.ofBits .f32 0x41800000#32 = ((16 : ℝ) : EReal) := by
  simp [Ideal.ofBits, Ideal.ieee, -EReal.coe_mul]; norm_num
theorem ofBits_4096 : Ideal.ofBits .f32 0x45800000#32 = ((4096 : ℝ) : EReal) := by
  simp [Ideal.ofBits, Ideal.ieee, -EReal.coe_mul]; norm_num
theorem ofBits_top : Ideal.ofBits .f32 0x7F800000#32 = ⊤ := by
  simp [Ideal.ofBits, Ideal.ieee]

/-! ## The root -/

/-- The distance from a squared distance. -/
def root (x : EReal) : EReal := Ideal.sqrt (max x floor2)

/-- Below the top the distance is a nonnegative real. -/
theorem root_real {x : EReal} (hx : x ≠ ⊤) : ∃ r : ℝ, 0 ≤ r ∧ root x = (r : EReal) := by
  obtain ⟨e, he, hE⟩ := floor2_real
  have h : ∃ s : ℝ, 0 ≤ s ∧ max x floor2 = (s : EReal) := by
    rw [hE]
    induction x with
    | bot => exact ⟨e, he.le, by simp⟩
    | top => exact absurd rfl hx
    | coe a => exact ⟨max a e, le_max_of_le_right he.le, by norm_cast⟩
  obtain ⟨s, hs, hS⟩ := h
  refine ⟨Real.sqrt s, Real.sqrt_nonneg s, ?_⟩
  rw [root, hS, Ideal.sqrt_coe, if_neg (not_lt.mpr hs)]

theorem root_top : root ⊤ = ⊤ := by
  rw [root, max_eq_left le_top, Ideal.sqrt_top]

theorem root_nonneg (x : EReal) : 0 ≤ root x := by
  by_cases hx : x = ⊤
  · subst hx; rw [root_top]; exact le_top
  · obtain ⟨r, hr, h⟩ := root_real hx
    rw [h]; exact_mod_cast hr

/-- The distance grows with the squared distance. -/
theorem root_mono : Monotone root := by
  intro x y hxy
  obtain ⟨e, he, hE⟩ := floor2_real
  have key : ∀ a b : EReal, (e : EReal) ≤ a → a ≤ b → Ideal.sqrt a ≤ Ideal.sqrt b := by
    intro a b ha hab
    induction b with
    | bot => rw [le_bot_iff.mp hab]
    | top => rw [Ideal.sqrt_top]; exact le_top
    | coe b =>
      induction a with
      | bot => exact absurd (le_bot_iff.mp ha) (EReal.coe_ne_bot e)
      | top => exact absurd (top_le_iff.mp hab) (EReal.coe_ne_top b)
      | coe a =>
        have ha' : e ≤ a := by exact_mod_cast ha
        have hab' : a ≤ b := by exact_mod_cast hab
        rw [Ideal.sqrt_coe, Ideal.sqrt_coe, if_neg (by linarith), if_neg (by linarith)]
        exact_mod_cast Real.sqrt_le_sqrt hab'
  exact key _ _ (hE ▸ le_max_right _ _) (max_le_max_right _ hxy)

/-- The distance, and zero for an unshared slot. -/
def kept (x : EReal) : EReal := if x = ⊥ then 0 else root x

theorem kept_mono : Monotone kept := by
  intro x y hxy
  unfold kept
  by_cases hx : x = ⊥
  · rw [if_pos hx]; split
    · exact le_rfl
    · exact root_nonneg y
  · have hy : y ≠ ⊥ := fun h => hx (le_bot_iff.mp (h ▸ hxy))
    rw [if_neg hx, if_neg hy]; exact root_mono hxy

/-! ## The rank -/

/-- Which entry counts, by the number of shared slots. -/
def rank (c : ℕ) : ℕ := if c ≤ 5 then 0 else if c ≤ 10 then 1 else 2

theorem rank_lt (c : ℕ) : rank c < 3 := by unfold rank; split_ifs <;> omega

theorem rank_lt_count {c : ℕ} (hc : c ≠ 0) : rank c < c := by unfold rank; split_ifs <;> omega

/-- The entry of the wanted rank, as the chain leaves it. -/
def ranked (u : ℕ → EReal) (c : ℕ) : EReal :=
  if c ≤ 5 then top1 u 15 else if c ≤ 10 then top2 u 14 else top3 u 13

theorem isKth_ranked (u : ℕ → EReal) (c : ℕ) : IsKth (rank c) (fun t : Fin 16 => u t) (ranked u c) := by
  unfold rank ranked
  split_ifs
  · exact isKth_top1 u
  · exact isKth_top2 u
  · exact isKth_top3 u

/-- The kernel's distance of one pair from the sixteen slots. -/
def pairDist (u : ℕ → EReal) (c : ℕ) : EReal := if c = 0 then 0 else root (ranked u c)

/-- THE PAIR: rooting the ranked squared distance is sorting the rooted ones and taking the entry of that rank. -/
theorem pairDist_eq (u : ℕ → EReal) (w v : Fin 16 → EReal) (b : Fin 16 → Prop) [DecidablePred b]
    (hw : ∀ t, w t ≠ ⊥) (hu : ∀ t : Fin 16, u t = if b t then w t else ⊥)
    (hv : ∀ t, v t = if b t then root (w t) else 0)
    (R : Fin 16 → Fin 16 → Bool) (hR : ∀ k k', R k k' = decide (-v k < -v k'))
    (k : Fin 16) (hk : (k : ℕ) = rank (Finset.univ.filter b).card) :
    - -v (sortedFrom R k) = pairDist u (Finset.univ.filter b).card := by
  set c := (Finset.univ.filter b).card with hc
  have hkv : v = fun t : Fin 16 => kept (u t) := by
    funext t
    rw [hv, hu, kept]
    by_cases h : b t
    · rw [if_pos h, if_pos h, if_neg (hw t)]
    · rw [if_neg h, if_neg h, if_pos rfl]
  have h1 : IsKth k v (- -v (sortedFrom R k)) := isKth_sorted v R hR k
  have h2 : IsKth k v (kept (ranked u c)) := by
    rw [hk, hkv]; exact (isKth_ranked u c).map kept kept_mono
  rw [h1.unique h2]
  unfold pairDist
  by_cases h0 : c = 0
  · rw [if_pos h0]
    have hnone : ∀ t : Fin 16, u t = ⊥ := by
      intro t
      rw [hu, if_neg]
      intro hb
      have : t ∈ Finset.univ.filter b := by simp [hb]
      rw [Finset.card_eq_zero.mp (hc.symm.trans h0)] at this
      simp at this
    have : ranked u c = ⊥ := by
      by_contra hne
      have hlt := ((isKth_ranked u c) (ranked u c)).mp le_rfl
      have hz : atLeast (fun t : Fin 16 => u t) (ranked u c) = 0 := by
        unfold atLeast
        rw [Finset.card_eq_zero, Finset.filter_eq_empty_iff]
        intro t _ hle
        exact hne (le_bot_iff.mp (hnone t ▸ hle))
      omega
    rw [this, kept, if_pos rfl]
  · rw [if_neg h0, kept, if_neg]
    intro hbot
    -- more slots than the rank are shared, so the entry of that rank is above the bottom
    obtain ⟨m, hm, hmw⟩ : ∃ m : EReal, m ≠ ⊥ ∧ ∀ t, b t → m ≤ w t := by
      refine ⟨Finset.univ.inf w, ?_, fun t _ => Finset.inf_le (Finset.mem_univ t)⟩
      obtain ⟨t, -, ht⟩ := Finset.exists_mem_eq_inf Finset.univ ⟨(0 : Fin 16), Finset.mem_univ _⟩ w
      rw [ht]; exact hw t
    have hge : m ≤ ranked u c := by
      refine (isKth_ranked u c).ge (lt_of_lt_of_le (rank_lt_count h0) ?_)
      unfold atLeast
      rw [hc]
      refine Finset.card_le_card fun t ht => ?_
      simp only [Finset.mem_filter, Finset.mem_univ, true_and] at ht ⊢
      rw [hu, if_pos ht]; exact hmw t ht
    exact hm (le_bot_iff.mp (hbot ▸ hge))

end Cert.Knn
-- ==== Proof.Rows.lean ====
module

public import proofs.«01_k».proof.Proof.KBody
public import proofs.«01_k».proof.Proof.Pair
public import Idealize.ShloMosaic.Lib.Pointwise

@[expose] public section

/-! # The sixteen rounds, a row at a time

Each round takes the least entry of a row, finds the first column holding it and puts infinity there. So the sixteen
columns picked are the first sixteen of the row sorted stably. -/

noncomputable section

namespace Cert.Knn

open Idealize.ShloMosaic Cert.KernelIdeal Cert.KernelIdeal.Gen

/-- The least of a row, its four quarters folded together first. -/
def quarterLeast (g : Fin 4096 → EReal) : EReal :=
  Finset.univ.inf fun x : Fin 1024 =>
    min (min (g ⟨x, by omega⟩) (g ⟨1024 + x, by omega⟩)) (min (g ⟨2048 + x, by omega⟩) (g ⟨3072 + x, by omega⟩))

theorem quarterLeast_le (g : Fin 4096 → EReal) (j : Fin 4096) : quarterLeast g ≤ g j := by
  have hx : (j : ℕ) % 1024 < 1024 := Nat.mod_lt _ (by decide)
  refine (Finset.inf_le (Finset.mem_univ (⟨(j : ℕ) % 1024, hx⟩ : Fin 1024))).trans ?_
  have hj := j.isLt
  rcases (by omega : (j : ℕ) / 1024 = 0 ∨ (j : ℕ) / 1024 = 1 ∨ (j : ℕ) / 1024 = 2 ∨ (j : ℕ) / 1024 = 3)
    with hq | hq | hq | hq
  · exact (min_le_left _ _).trans ((min_le_left _ _).trans (le_of_eq (congrArg g (Fin.ext (by dsimp only; omega)))))
  · exact (min_le_left _ _).trans ((min_le_right _ _).trans (le_of_eq (congrArg g (Fin.ext (by dsimp only; omega)))))
  · exact (min_le_right _ _).trans ((min_le_left _ _).trans (le_of_eq (congrArg g (Fin.ext (by dsimp only; omega)))))
  · exact (min_le_right _ _).trans ((min_le_right _ _).trans (le_of_eq (congrArg g (Fin.ext (by dsimp only; omega)))))

theorem quarterLeast_mem (g : Fin 4096 → EReal) : ∃ j, quarterLeast g = g j := by
  unfold quarterLeast
  obtain ⟨x, -, hx⟩ := Finset.exists_mem_eq_inf Finset.univ ⟨(0 : Fin 1024), Finset.mem_univ _⟩
    fun x : Fin 1024 =>
      min (min (g ⟨x, by omega⟩) (g ⟨1024 + x, by omega⟩)) (min (g ⟨2048 + x, by omega⟩) (g ⟨3072 + x, by omega⟩))
  rw [hx]
  have two : ∀ a b : Fin 4096, ∃ j, min (g a) (g b) = g j := fun a b =>
    (min_choice (g a) (g b)).elim (fun h => ⟨a, h⟩) (fun h => ⟨b, h⟩)
  obtain ⟨a, ha⟩ := two ⟨x, by omega⟩ ⟨1024 + x, by omega⟩
  obtain ⟨b, hb⟩ := two ⟨2048 + x, by omega⟩ ⟨3072 + x, by omega⟩
  rw [ha, hb]
  exact two a b

/-- The least entry of a row is at most every entry and is one of them. -/
theorem least_apply (d : FVec Ideal S512x4096 .f32) (p : Fin 512) :
    (∀ j : Fin 4096, leastV d (ix2 p 0) ≤ d (ix2 p j)) ∧ ∃ j : Fin 4096, leastV d (ix2 p 0) = d (ix2 p j) := by
  have h : leastV d (ix2 p 0) = quarterLeast fun j => d (ix2 p j) := by
    pointwise [leastV]
    rw [ofBits_top]
    rfl
  rw [h]
  exact ⟨quarterLeast_le _, quarterLeast_mem _⟩

/-- A candidate is the column number where the entry is the row's least, and 4096 elsewhere. -/
theorem cand_apply (d : FVec Ideal S512x4096 .f32) (p : Fin 512) (j : Fin 4096) :
    candV d (ix2 p j) = if d (ix2 p j) = leastV d (ix2 p 0) then (((j : ℕ) : ℝ) : EReal) else ((4096 : ℝ) : EReal) := by
  pointwise [candV]
  rw [ofBits_4096]
  have hj := j.isLt
  have hi : (BitVec.ofNat 32 (j : ℕ)).toInt = (j : ℕ) := by
    rw [BitVec.toInt_eq_toNat_of_lt] <;> simp only [BitVec.toNat_ofNat] <;> omega
  have hs : (FloatOps.sitofp .f32 (BitVec.ofNat 32 (j : ℕ)) : Ideal .f32) = (((j : ℕ) : ℝ) : EReal) := by
    show ((((BitVec.ofNat 32 (j : ℕ)).toInt : ℤ) : ℝ) : EReal) = _
    rw [hi]; norm_cast
  rw [hs]

/-- One round of a row: the pick is the first least column, and it alone is replaced by infinity. -/
theorem round_row (d : FVec Ideal S512x4096 .f32) (p : Fin 512) :
    ∃ a : Fin 4096, IsFirstMin (fun j => d (ix2 p j)) a ∧ leastV d (ix2 p 0) = d (ix2 p a)
      ∧ pickV d (ix2 p 0) = (((a : ℕ) : ℝ) : EReal)
      ∧ ∀ j, nextV d (ix2 p j) = if j = a then ⊤ else d (ix2 p j) := by
  obtain ⟨hle, j1, hj1⟩ := least_apply d p
  obtain ⟨hcle, a, ha⟩ := least_apply (candV d) p
  have hc1 : candV d (ix2 p j1) = (((j1 : ℕ) : ℝ) : EReal) := by rw [cand_apply, if_pos hj1.symm]
  have hlt : ∀ j : Fin 4096, (((j : ℕ) : ℝ) : EReal) < ((4096 : ℝ) : EReal) := fun j => by
    have := j.isLt; exact_mod_cast this
  have hda : d (ix2 p a) = leastV d (ix2 p 0) := by
    by_contra hne
    have h1 := hcle j1
    rw [ha, hc1, cand_apply, if_neg hne] at h1
    exact absurd h1 (not_le.mpr (hlt j1))
  have hpick : pickV d (ix2 p 0) = (((a : ℕ) : ℝ) : EReal) := by
    rw [pickV, ha, cand_apply, if_pos hda]
  refine ⟨a, ⟨fun j => ?_, fun j hj => ?_⟩, hda.symm, hpick, fun j => ?_⟩
  · show d (ix2 p a) ≤ d (ix2 p j)
    rw [hda]; exact hle j
  · have h1 : pickV d (ix2 p 0) ≤ candV d (ix2 p j) := hcle j
    rw [hpick, cand_apply, if_pos (Eq.trans hj hda)] at h1
    exact_mod_cast h1
  · have hn : nextV d (ix2 p j) = if candV d (ix2 p j) = pickV d (ix2 p 0) then ⊤ else d (ix2 p j) := by
      pointwise [nextV]
      rw [ofBits_top]
    rw [hn, hpick, cand_apply]
    by_cases hj : j = a
    · subst hj; rw [if_pos hda, if_pos rfl, if_pos rfl]
    · rw [if_neg hj, if_neg]
      split_ifs
      · intro h
        apply hj
        ext
        exact_mod_cast h
      · exact fun h => absurd h.symm (ne_of_lt (hlt a))

variable (x0 : Vec Ideal S3x512x16 .f32) (x1 : Vec Ideal S3x16x4096 .f32) (x2 : Vec Ideal S512x16 .f32)
  (x3 : Vec Ideal S16x4096 .f32)

/-- The column picked from row `p` in round `r`. -/
def picked (p : Fin 512) (r : ℕ) : Fin 4096 := (round_row (roundV x0 x1 x2 x3 r) p).choose

theorem picked_spec (p : Fin 512) (r : ℕ) :
    IsFirstMin (fun j => roundV x0 x1 x2 x3 r (ix2 p j)) (picked x0 x1 x2 x3 p r)
      ∧ leastV (roundV x0 x1 x2 x3 r) (ix2 p 0) = roundV x0 x1 x2 x3 r (ix2 p (picked x0 x1 x2 x3 p r))
      ∧ pickV (roundV x0 x1 x2 x3 r) (ix2 p 0) = (((picked x0 x1 x2 x3 p r : ℕ) : ℝ) : EReal)
      ∧ ∀ j, nextV (roundV x0 x1 x2 x3 r) (ix2 p j)
          = if j = picked x0 x1 x2 x3 p r then ⊤ else roundV x0 x1 x2 x3 r (ix2 p j) :=
  (round_row (roundV x0 x1 x2 x3 r) p).choose_spec

/-- The rounds of a row are rounds of taking out the first least entry. -/
theorem isRounds (p : Fin 512) (k : ℕ) :
    IsRounds (fun j => distV x0 x1 x2 x3 (ix2 p j)) (fun r j => roundV x0 x1 x2 x3 r (ix2 p j))
      (picked x0 x1 x2 x3 p) k where
  zero := rfl
  pick r _ := (picked_spec x0 x1 x2 x3 p r).1
  next r _ j := (picked_spec x0 x1 x2 x3 p r).2.2.2 j

/-- Round `r` of row `p`, where no distance is infinite: the column picked is the stable sort's `r`-th, and the least
    entry is the distance there. -/
theorem round_sorted (p : Fin 512) (hD : ∀ j, distV x0 x1 x2 x3 (ix2 p j) ≠ ⊤) (r : Fin 16) :
    let s := sortedFrom (lexBefore fun j : Fin 4096 => distV x0 x1 x2 x3 (ix2 p j)) (r.castLE (by decide))
    leastV (roundV x0 x1 x2 x3 r) (ix2 p 0) = distV x0 x1 x2 x3 (ix2 p s)
      ∧ pickV (roundV x0 x1 x2 x3 r) (ix2 p 0) = (((s : ℕ) : ℝ) : EReal) := by
  have hs := (isRounds x0 x1 x2 x3 p 16).sortedFrom_eq (by decide) hD r
  have hv := (isRounds x0 x1 x2 x3 p 16).value (by decide) hD r r.isLt
  obtain ⟨-, h2, h3, -⟩ := picked_spec x0 x1 x2 x3 p r
  simp only [hs]
  exact ⟨h2.trans hv, h3⟩

end Cert.Knn
-- ==== Proof.Spec.lean ====
module

public import proofs.«01_k».proof.Proof.Pair
public import Idealize.ShloMosaic.Lib.Pointwise

@[expose] public section

/-! # What both programs compute, at one pair of players

A pair has sixteen slots. Each slot has a point on the left curve, a point on the right curve and a mask bit for
either. -/

noncomputable section

namespace Cert.Knn

open Idealize.ShloMosaic

/-- The squared distance of two points, spelt out. -/
def sqDist (q b : Fin 3 → EReal) : EReal :=
  (q 0 * q 0 + q 1 * q 1 + q 2 * q 2) + (b 0 * b 0 + b 1 * b 1 + b 2 * b 2)
    - ((2 : ℝ) : EReal) * (q 0 * b 0 + q 1 * b 1 + q 2 * b 2)

/-- Every coordinate is a real number. -/
def Finite (q : Fin 16 → Fin 3 → EReal) : Prop := ∀ t k, ∃ r : ℝ, q t k = (r : EReal)

/-- Both sides hold slot `t`. -/
def Shared (m n : Fin 16 → BitVec 1) (t : Fin 16) : Prop := m t = 1#1 ∧ n t = 1#1

instance (m n : Fin 16 → BitVec 1) : DecidablePred (Shared m n) := fun t => by unfold Shared; infer_instance

/-- How many slots both sides hold. -/
def sharedCount (m n : Fin 16 → BitVec 1) : ℕ := (Finset.univ.filter (Shared m n)).card

theorem sharedCount_le (m n : Fin 16 → BitVec 1) : sharedCount m n ≤ 16 :=
  (Finset.card_le_univ _).trans (by simp)

/-- The slot's number within the sixteen. -/
def slotIx (t : ℕ) : Fin 16 := ⟨t % 16, Nat.mod_lt _ (by decide)⟩

theorem slotIx_val (t : Fin 16) : slotIx t = t := Fin.ext (Nat.mod_eq_of_lt t.isLt)

/-- The squared distance at a shared slot, the bottom at another. -/
def slot (q b : Fin 16 → Fin 3 → EReal) (m n : Fin 16 → BitVec 1) (t : ℕ) : EReal :=
  if Shared m n (slotIx t) then sqDist (q (slotIx t)) (b (slotIx t)) else ⊥

/-- The distance of the pair. -/
def curveDist (q b : Fin 16 → Fin 3 → EReal) (m n : Fin 16 → BitVec 1) : EReal :=
  pairDist (slot q b m n) (sharedCount m n)

/-- The three terms of a scalar product of real triples are reals. -/
theorem dot_real {q b : Fin 3 → EReal} (hq : ∀ k, ∃ r : ℝ, q k = (r : EReal)) (hb : ∀ k, ∃ r : ℝ, b k = (r : EReal)) :
    ∃ r : ℝ, q 0 * b 0 + q 1 * b 1 + q 2 * b 2 = (r : EReal) := by
  obtain ⟨q0, h0⟩ := hq 0
  obtain ⟨q1, h1⟩ := hq 1
  obtain ⟨q2, h2⟩ := hq 2
  obtain ⟨b0, g0⟩ := hb 0
  obtain ⟨b1, g1⟩ := hb 1
  obtain ⟨b2, g2⟩ := hb 2
  exact ⟨q0 * b0 + q1 * b1 + q2 * b2, by rw [h0, h1, h2, g0, g1, g2]; norm_cast⟩

/-- The squared distance of real points is a real. -/
theorem sqDist_real {q b : Fin 3 → EReal} (hq : ∀ k, ∃ r : ℝ, q k = (r : EReal)) (hb : ∀ k, ∃ r : ℝ, b k = (r : EReal)) :
    ∃ r : ℝ, sqDist q b = (r : EReal) := by
  obtain ⟨x, hx⟩ := dot_real hq hq
  obtain ⟨y, hy⟩ := dot_real hb hb
  obtain ⟨z, hz⟩ := dot_real hq hb
  exact ⟨x + y - 2 * z, by rw [sqDist, hx, hy, hz]; norm_cast⟩

/-- One mask bit's penalty: nought where the bit is set, the bottom where it is not. -/
theorem penalty (m : BitVec 1) :
    (((m.toNat : ℝ) : EReal) - 1) * ⊤ = if m = 1#1 then 0 else ⊥ := by
  rcases BitVec.eq_zero_or_eq_one m with h | h <;> subst h
  · have : (((0#1 : BitVec 1).toNat : ℝ) : EReal) - 1 = ((-1 : ℝ) : EReal) := by norm_num
    rw [this, EReal.coe_mul_top_of_neg (by norm_num), if_neg (by decide)]
  · have : (((1#1 : BitVec 1).toNat : ℝ) : EReal) - 1 = ((0 : ℝ) : EReal) := by
      rw [show ((1#1 : BitVec 1).toNat : ℝ) = 1 by norm_num]; norm_cast
    rw [this, if_pos rfl, EReal.coe_zero, zero_mul]

/-- The penalised squared distance is the slot's value. -/
theorem penalised {q b : Fin 3 → EReal} (hq : ∀ k, ∃ r : ℝ, q k = (r : EReal)) (hb : ∀ k, ∃ r : ℝ, b k = (r : EReal))
    (m n : BitVec 1) :
    (q 0 * q 0 + q 1 * q 1 + q 2 * q 2 + (((m.toNat : ℝ) : EReal) - 1) * ⊤)
        + (b 0 * b 0 + b 1 * b 1 + b 2 * b 2 + (((n.toNat : ℝ) : EReal) - 1) * ⊤)
        - ((2 : ℝ) : EReal) * (q 0 * b 0 + q 1 * b 1 + q 2 * b 2)
      = if m = 1#1 ∧ n = 1#1 then sqDist q b else ⊥ := by
  rw [penalty, penalty, sqDist]
  by_cases hm : m = 1#1 <;> by_cases hn : n = 1#1 <;> simp [hm, hn, EReal.bot_sub]

/-- The product of the two mask bits says whether the slot is shared. -/
theorem bits_mul (m n : Fin 16 → BitVec 1) (t : Fin 16) :
    (((m t).toNat : ℝ) : EReal) * (((n t).toNat : ℝ) : EReal) = if Shared m n t then 1 else 0 := by
  unfold Shared
  rcases BitVec.eq_zero_or_eq_one (m t) with h | h <;> rcases BitVec.eq_zero_or_eq_one (n t) with g | g <;>
    simp [h, g]

/-- Summed over the slots they count the shared ones. -/
theorem bits_sum (m n : Fin 16 → BitVec 1) :
    ∑ t, (((m t).toNat : ℝ) : EReal) * (((n t).toNat : ℝ) : EReal) = ((sharedCount m n : ℝ) : EReal) := by
  rw [Finset.sum_congr rfl fun t _ => bits_mul m n t, Finset.sum_boole, sharedCount]
  rfl

/-- The distance of a pair of real curves is below the top. -/
theorem curveDist_ne_top {q b : Fin 16 → Fin 3 → EReal} (hq : Finite q) (hb : Finite b) (m n : Fin 16 → BitVec 1) :
    curveDist q b m n ≠ ⊤ := by
  have hs : ∀ t, slot q b m n t < ⊤ := by
    intro t
    unfold slot
    split
    · obtain ⟨r, hr⟩ := sqDist_real (hq (slotIx t)) (hb (slotIx t))
      rw [hr]; exact EReal.coe_lt_top r
    · exact bot_lt_top
  have h1 : ∀ n', top1 (slot q b m n) n' < ⊤ := by
    intro n'
    induction n' with
    | zero => exact hs 0
    | succ k ih => exact max_lt ih (hs _)
  have h2 : ∀ n', top2 (slot q b m n) n' < ⊤ := by
    intro n'
    induction n' with
    | zero => exact lt_of_le_of_lt (min_le_left _ _) (hs 1)
    | succ k ih => exact max_lt ih (lt_of_le_of_lt (min_le_left _ _) (hs _))
  have h3 : ∀ n', top3 (slot q b m n) n' < ⊤ := by
    intro n'
    induction n' with
    | zero => exact lt_of_le_of_lt (min_le_left _ _) (hs 2)
    | succ k ih => exact max_lt ih (lt_of_le_of_lt (min_le_left _ _) (hs _))
  unfold curveDist pairDist
  split
  · exact EReal.zero_ne_top
  · have hr : ranked (slot q b m n) (sharedCount m n) < ⊤ := by
      unfold ranked; split_ifs
      · exact h1 _
      · exact h2 _
      · exact h3 _
    obtain ⟨r, -, h⟩ := root_real hr.ne
    rw [h]; exact EReal.coe_ne_top r

/-! ## The two results, over the argument arrays -/

/-- The points' array of `n` curves of sixteen slots. -/
abbrev Points (n : ℕ) : Type := (⟨3, ![16, n, 3]⟩ : Shape).Idx → EReal

/-- The mask's array of `n` curves of sixteen slots. -/
abbrev Masks (n : ℕ) : Type := (⟨2, ![16, n]⟩ : Shape).Idx → BitVec 1

/-- One curve's points. -/
def curve {n : ℕ} (a : Points n) (i : Fin n) : Fin 16 → Fin 3 → EReal := fun t k => a (ix3 t i k)

/-- One curve's mask bits. -/
def bits {n : ℕ} (a : Masks n) (i : Fin n) : Fin 16 → BitVec 1 := fun t => a (ix2 t i)

variable (a0 : Points 1024) (a1 : Points 4096) (a2 : Masks 1024) (a3 : Masks 4096)

/-- The distance of left curve `i` and right curve `j`. -/
def dist (i : Fin 1024) (j : Fin 4096) : EReal := curveDist (curve a0 i) (curve a1 j) (bits a2 i) (bits a3 j)

/-- The right curve that is `r`-th nearest to left curve `i`, the earlier one first among equals. -/
def nearest (i : Fin 1024) (r : Fin 16) : Fin 4096 := sortedFrom (lexBefore (dist a0 a1 a2 a3 i)) (r.castLE (by decide))

/-- The first result: the sixteen least distances of each left curve. -/
def leastOut : (⟨2, ![1024, 16]⟩ : Shape).Idx → EReal := fun x => dist a0 a1 a2 a3 (x 0) (nearest a0 a1 a2 a3 (x 0) (x 1))

/-- The second result: which right curves they belong to. -/
def whichOut : (⟨2, ![1024, 16]⟩ : Shape).Idx → BitVec 32 := fun x => BitVec.ofNat 32 (nearest a0 a1 a2 a3 (x 0) (x 1))

/-- Every entry of a points' array is a real number. -/
def AllReal {n : ℕ} (a : Points n) : Prop := ∀ x, ∃ r : ℝ, a x = (r : EReal)

end Cert.Knn
-- ==== Proof.KPoint.lean ====
module

public import proofs.«01_k».proof.Proof.KBody
public import proofs.«01_k».proof.Proof.Spec
public import Idealize.ShloMosaic.Lib.Pointwise

@[expose] public section

/-! # The kernel's distance at one pair

At the ideal instance the body's distance array, read at row `p` and column `l`, is the pair's curve distance. -/

noncomputable section

namespace Cert.Knn

open Idealize.ShloMosaic Cert.KernelIdeal Cert.KernelIdeal.Gen

variable (x0 : Vec Ideal S3x512x16 .f32) (x1 : Vec Ideal S3x16x4096 .f32) (x2 : Vec Ideal S512x16 .f32)
  (x3 : Vec Ideal S16x4096 .f32)

/-- The running largest at a pair. -/
theorem largest_apply (n : ℕ) (p : Fin 512) (l : Fin 4096) :
    largest x0 x1 x2 x3 n (ix2 p l) = top1 (fun t => slotV x0 x1 x2 x3 t (ix2 p l)) n := by
  induction n with
  | zero => rfl
  | succ n ih => exact congrArg (fun z => max z _) ih

/-- The running second largest at a pair. -/
theorem second_apply (n : ℕ) (p : Fin 512) (l : Fin 4096) :
    second x0 x1 x2 x3 n (ix2 p l) = top2 (fun t => slotV x0 x1 x2 x3 t (ix2 p l)) n := by
  induction n with
  | zero => rfl
  | succ n ih => exact congrArg₂ (fun z w => max z (min _ w)) ih (largest_apply x0 x1 x2 x3 (n + 1) p l)

/-- The running third largest at a pair. -/
theorem third_apply (n : ℕ) (p : Fin 512) (l : Fin 4096) :
    third x0 x1 x2 x3 n (ix2 p l) = top3 (fun t => slotV x0 x1 x2 x3 t (ix2 p l)) n := by
  induction n with
  | zero => rfl
  | succ n ih => exact congrArg₂ (fun z w => max z (min _ w)) ih (second_apply x0 x1 x2 x3 (n + 1) p l)

/-- The named constant stands for the top. -/
theorem big_top : Named.named (F := Ideal) (φ := .f32) Cert.KernelIdeal.κ "big" 1900671690#32 = (⊤ : EReal) := by
  simp [Named.named, Cert.KernelIdeal.κ]

/-- A slot's penalised squared distance at a pair, from the loaded blocks. -/
theorem slotV_apply (t : ℕ) (p : Fin 512) (l : Fin 4096) :
    slotV x0 x1 x2 x3 t (ix2 p l)
      = (x0 (ix3 0 p (slotIx t)) * x0 (ix3 0 p (slotIx t)) + x0 (ix3 1 p (slotIx t)) * x0 (ix3 1 p (slotIx t))
            + x0 (ix3 2 p (slotIx t)) * x0 (ix3 2 p (slotIx t)) + (x2 (ix2 p (slotIx t)) - 1) * ⊤)
          + (x1 (ix3 0 (slotIx t) l) * x1 (ix3 0 (slotIx t) l) + x1 (ix3 1 (slotIx t) l) * x1 (ix3 1 (slotIx t) l)
            + x1 (ix3 2 (slotIx t) l) * x1 (ix3 2 (slotIx t) l) + (x3 (ix2 (slotIx t) l) - 1) * ⊤)
          - ((2 : ℝ) : EReal) * (x0 (ix3 0 p (slotIx t)) * x1 (ix3 0 (slotIx t) l)
            + x0 (ix3 1 p (slotIx t)) * x1 (ix3 1 (slotIx t) l) + x0 (ix3 2 p (slotIx t)) * x1 (ix3 2 (slotIx t) l)) := by
  have e0 : ∀ t : Fin 16, k0_pay188 x0 x1 x2 x3 (ix2 p t) = x0 (ix3 0 p t) := fun t => by
    pointwise [k0_pay188, k0_pay12, k0_pay2]
  have e1 : ∀ t : Fin 16, k0_pay189 x0 x1 x2 x3 (ix2 p t) = x0 (ix3 1 p t) := fun t => by
    pointwise [k0_pay189, k0_pay13, k0_pay3]
  have e2 : ∀ t : Fin 16, k0_pay190 x0 x1 x2 x3 (ix2 p t) = x0 (ix3 2 p t) := fun t => by
    pointwise [k0_pay190, k0_pay14, k0_pay4]
  have f0 : ∀ t : Fin 16, k0_pay191 x0 x1 x2 x3 (ix2 t l) = x1 (ix3 0 t l) := fun t => by
    pointwise [k0_pay191, k0_pay15, k0_pay5]
  have f1 : ∀ t : Fin 16, k0_pay192 x0 x1 x2 x3 (ix2 t l) = x1 (ix3 1 t l) := fun t => by
    pointwise [k0_pay192, k0_pay16, k0_pay6]
  have f2 : ∀ t : Fin 16, k0_pay194 x0 x1 x2 x3 (ix2 t l) = x1 (ix3 2 t l) := fun t => by
    pointwise [k0_pay194, k0_pay193, k0_pay18, k0_pay17, k0_pay7]
  have eq : ∀ t : Fin 16, k0_pay195 x0 x1 x2 x3 (ix2 p t)
      = x0 (ix3 0 p t) * x0 (ix3 0 p t) + x0 (ix3 1 p t) * x0 (ix3 1 p t) + x0 (ix3 2 p t) * x0 (ix3 2 p t)
        + (x2 (ix2 p t) - 1) * ⊤ := fun t => by
    pointwise [k0_pay195, k0_pay19, k0_pay184, k0_pay186, k0_pay8, k0_pay10, k0_pay2, k0_pay3, k0_pay4]
    rw [big_top]
  have eb : ∀ t : Fin 16, k0_pay196 x0 x1 x2 x3 (ix2 t l)
      = x1 (ix3 0 t l) * x1 (ix3 0 t l) + x1 (ix3 1 t l) * x1 (ix3 1 t l) + x1 (ix3 2 t l) * x1 (ix3 2 t l)
        + (x3 (ix2 t l) - 1) * ⊤ := fun t => by
    pointwise [k0_pay196, k0_pay20, k0_pay185, k0_pay187, k0_pay9, k0_pay11, k0_pay5, k0_pay6, k0_pay7]
    rw [big_top]
  have : slotV x0 x1 x2 x3 t (ix2 p l)
      = k0_pay195 x0 x1 x2 x3 (ix2 p (slotIx t)) + k0_pay196 x0 x1 x2 x3 (ix2 (slotIx t) l)
        - Ideal.ofBits .f32 1073741824#32 * (k0_pay188 x0 x1 x2 x3 (ix2 p (slotIx t)) * k0_pay191 x0 x1 x2 x3 (ix2 (slotIx t) l)
          + k0_pay189 x0 x1 x2 x3 (ix2 p (slotIx t)) * k0_pay192 x0 x1 x2 x3 (ix2 (slotIx t) l)
          + k0_pay190 x0 x1 x2 x3 (ix2 p (slotIx t)) * k0_pay194 x0 x1 x2 x3 (ix2 (slotIx t) l)) := by
    pointwise [slotV, spreadLeft, spreadRight]
    rfl
  rw [this, eq, eb, e0, e1, e2, f0, f1, f2, ofBits_two]

/-- The number of shared slots of a pair, from the loaded masks. -/
theorem count_apply (p : Fin 512) (l : Fin 4096) :
    k0_pay197 x0 x1 x2 x3 (ix2 p l) = ∑ t : Fin 16, x2 (ix2 p t) * x3 (ix2 t l) := by
  pointwise [k0_pay197, k0_pay21, k0_pay184, k0_pay185, k0_pay8, k0_pay9]

/-- The distance of a pair from its shared count and its three running largest. -/
theorem distV_apply (p : Fin 512) (l : Fin 4096) :
    distV x0 x1 x2 x3 (ix2 p l)
      = if k0_pay197 x0 x1 x2 x3 (ix2 p l) = 0 then 0 else
          root (if k0_pay197 x0 x1 x2 x3 (ix2 p l) ≤ ((5 : ℝ) : EReal) then largest x0 x1 x2 x3 15 (ix2 p l)
            else if k0_pay197 x0 x1 x2 x3 (ix2 p l) ≤ ((10 : ℝ) : EReal) then second x0 x1 x2 x3 14 (ix2 p l)
            else third x0 x1 x2 x3 13 (ix2 p l)) := by
  unfold root floor2
  rw [← ofBits_five, ← ofBits_ten]
  pointwise [distV]

/-- THE KERNEL'S DISTANCE: with real coordinates and the masks as numbers, the pair's curve distance. -/
theorem distV_eq_curveDist (p : Fin 512) (l : Fin 4096) (q b : Fin 16 → Fin 3 → EReal) (m n : Fin 16 → BitVec 1)
    (hq : Finite q) (hb : Finite b) (h0 : ∀ k t, x0 (ix3 k p t) = q t k) (h1 : ∀ k t, x1 (ix3 k t l) = b t k)
    (h2 : ∀ t, x2 (ix2 p t) = (((m t).toNat : ℝ) : EReal)) (h3 : ∀ t, x3 (ix2 t l) = (((n t).toNat : ℝ) : EReal)) :
    distV x0 x1 x2 x3 (ix2 p l) = curveDist q b m n := by
  have hs : (fun t => slotV x0 x1 x2 x3 t (ix2 p l)) = slot q b m n := by
    funext t
    rw [slotV_apply]
    simp only [h0, h1, h2, h3]
    exact penalised (hq _) (hb _) _ _
  have hc : k0_pay197 x0 x1 x2 x3 (ix2 p l) = ((sharedCount m n : ℝ) : EReal) := by
    rw [count_apply, ← bits_sum]
    exact Finset.sum_congr rfl fun t _ => by rw [h2, h3]
  rw [distV_apply, hc, largest_apply, second_apply, third_apply, hs]
  have c0 : ((sharedCount m n : ℝ) : EReal) = 0 ↔ sharedCount m n = 0 := by
    rw [← EReal.coe_zero, EReal.coe_eq_coe_iff]; exact Nat.cast_eq_zero
  have c5 : ((sharedCount m n : ℝ) : EReal) ≤ ((5 : ℝ) : EReal) ↔ sharedCount m n ≤ 5 := by
    rw [EReal.coe_le_coe_iff]; exact_mod_cast Iff.rfl
  have c10 : ((sharedCount m n : ℝ) : EReal) ≤ ((10 : ℝ) : EReal) ↔ sharedCount m n ≤ 10 := by
    rw [EReal.coe_le_coe_iff]; exact_mod_cast Iff.rfl
  simp only [c0, c5, c10]
  rfl

end Cert.Knn
-- ==== Proof.KArr.lean ====
module

public import proofs.«01_k».proof.Proof.Rows
public import proofs.«01_k».proof.Proof.KPoint
public import Idealize.ShloMosaic.Lib.Pipeline.ValueKit
public import Idealize.ShloMosaic.Lib.StableHlo.RunRead

@[expose] public section

/-! # The kernel's two result arrays

The grid has two points, each of which computes 512 rows. What a point writes back is its block of one function of the
argument arrays, and the blocks fill the array. -/

noncomputable section

namespace Cert.Knn

open Idealize.ShloMosaic Idealize.ShloMosaic.Pipeline Idealize.ShloMosaic.TcCoe Cert.KernelIdeal Cert.KernelIdeal.Gen

variable (m : (ℓ : Loc nD τ sig) → Buf (Elt Ideal) ℓ) (c : Dev nD)

theorem offsets_zero : (![0, 0] : Fin 2 → Nat) = fun _ => 0 := funext fun a => by fin_cases a <;> rfl

/-- The first argument as the kernel's first window sees it. -/
theorem V_left (k : Fin 3) (i : Fin 1024) (t : Fin 16) :
    V m c main_call0_v0 (ix3 k i t) = m ((c : Thread nD τ).loc main_arg0) (ix3 t i k) := by
  unfold V
  after_reads_simp
  simp only [StableHlo.TRef.toBuf, StableHlo.TRef.ofBuf, cast_eq]
  pointwise

/-- The second argument as the second window sees it. -/
theorem V_right (k : Fin 3) (t : Fin 16) (j : Fin 4096) :
    V m c main_call0_v1 (ix3 k t j) = m ((c : Thread nD τ).loc main_arg1) (ix3 t j k) := by
  unfold V
  after_reads_simp
  simp only [StableHlo.TRef.toBuf, StableHlo.TRef.ofBuf, cast_eq]
  pointwise

/-- The left mask as the third window sees it: transposed, as numbers. -/
theorem V_leftBits (i : Fin 1024) (t : Fin 16) :
    V m c main_call0_v3 (ix2 i t) = (((m ((c : Thread nD τ).loc main_arg2) (ix2 t i) : BitVec 1).toNat : ℝ) : EReal) := by
  unfold V
  after_reads_simp
  simp only [StableHlo.TRef.toBuf, StableHlo.TRef.ofBuf, cast_eq]
  pointwise
  rfl

/-- The right mask as the fourth window sees it: as numbers. -/
theorem V_rightBits (t : Fin 16) (j : Fin 4096) :
    V m c main_call0_v4 (ix2 t j) = (((m ((c : Thread nD τ).loc main_arg3) (ix2 t j) : BitVec 1).toNat : ℝ) : EReal) := by
  unfold V
  after_reads_simp
  simp only [StableHlo.TRef.toBuf, StableHlo.TRef.ofBuf, cast_eq]
  pointwise
  rfl

/-- A column number below 4096, turned into a number and back into a word. -/
theorem fptosi_nat (s : Fin 4096) : Ideal.fptosi 32 (((s : ℕ) : ℝ) : EReal) = BitVec.ofNat 32 s := by
  unfold Ideal.fptosi
  rw [Ideal.toIntClamped_coe]
  have h : (0 : ℝ) ≤ ((s : ℕ) : ℝ) := Nat.cast_nonneg _
  rw [if_pos h, Int.floor_natCast]
  have h1 : min ((2 ^ (32 - 1) : ℕ) - 1 : ℤ) ((s : ℕ) : ℤ) = ((s : ℕ) : ℤ) := by
    have := s.isLt
    rw [min_eq_right]
    norm_num; omega
  rw [h1, max_eq_right (by norm_num), BitVec.ofInt_natCast]

/-- One result column, read. -/
theorem columns_apply (f : ℕ → FVec Ideal S512x1 .f32) (p : Fin 512) (r : Fin 16) :
    columns f (ix2 p r) = f r (ix2 p 0) := by
  unfold columns k0_pay183
  refine concatenate_ofFn_unit_apply (t := S512x16) (s₁ := S512x1) (N := 16) 1 (fun n => f n) _ rfl rfl (ix2 p r) r rfl (ix2 p 0) ?_
  intro b hb
  fin_cases b
  · rfl
  · exact absurd rfl hb

/-! ## The windows' blocks -/

theorem index_0 : ∀ t : Fin cfg0.N, win0_0.index t = ![0, t.val, 0] := (by decide +kernel : ∀ t : Fin grid0.N, _)
theorem index_1 : ∀ t : Fin cfg0.N, win0_1.index t = ![0, 0, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![t.val, 0] := (by decide +kernel : ∀ t : Fin grid0.N, _)

/-- Row `p` of point `t`'s block, in the array. -/
def rowOf (t : Fin cfg0.N) (p : Fin 512) : Fin 1024 :=
  ⟨t.val * 512 + p, by have : t.val < 2 := lt_of_lt_of_eq t.isLt N_0; omega⟩

theorem rowOf_val (t : Fin cfg0.N) (p : Fin 512) : (rowOf t p : ℕ) = t.val * 512 + p := rfl

/-- The left block at a point. -/
theorem iblk_left (t : Fin cfg0.N) (k : Fin 3) (p : Fin 512) (s : Fin 16) :
    iblk m c 0 t (ix3 k p s) = m ((c : Thread nD τ).loc main_arg0) (ix3 s (rowOf t p) k) := by
  refine Eq.trans ?_ (V_left m c k (rowOf t p) s)
  blk_simp [iblk]
  blk_ext [index_0, rowOf_val]

/-- The right block at a point. -/
theorem iblk_right (t : Fin cfg0.N) (k : Fin 3) (s : Fin 16) (l : Fin 4096) :
    iblk m c 1 t (ix3 k s l) = m ((c : Thread nD τ).loc main_arg1) (ix3 s l k) := by
  refine Eq.trans ?_ (V_right m c k s l)
  blk_simp [iblk]
  blk_ext [index_1]

/-- The left mask's block at a point. -/
theorem iblk_leftBits (t : Fin cfg0.N) (p : Fin 512) (s : Fin 16) :
    iblk m c 2 t (ix2 p s)
      = (((m ((c : Thread nD τ).loc main_arg2) (ix2 s (rowOf t p)) : BitVec 1).toNat : ℝ) : EReal) := by
  refine Eq.trans ?_ (V_leftBits m c (rowOf t p) s)
  blk_simp [iblk]
  blk_ext [index_2, rowOf_val]

/-- The right mask's block at a point. -/
theorem iblk_rightBits (t : Fin cfg0.N) (s : Fin 16) (l : Fin 4096) :
    iblk m c 3 t (ix2 s l) = (((m ((c : Thread nD τ).loc main_arg3) (ix2 s l) : BitVec 1).toNat : ℝ) : EReal) := by
  refine Eq.trans ?_ (V_rightBits m c s l)
  blk_simp [iblk]
  blk_ext [index_3]

/-! ## The arrays -/

variable (h0 : AllReal (n := 1024) (m ((c : Thread nD τ).loc main_arg0)))
  (h1 : AllReal (n := 4096) (m ((c : Thread nD τ).loc main_arg1)))
include h0 h1

/-- The distances a point computes are those of its rows. -/
theorem distV_block (t : Fin cfg0.N) (p : Fin 512) (l : Fin 4096) :
    distV (iblk m c 0 t) (iblk m c 1 t) (iblk m c 2 t) (iblk m c 3 t) (ix2 p l)
      = dist (m ((c : Thread nD τ).loc main_arg0)) (m ((c : Thread nD τ).loc main_arg1))
        (m ((c : Thread nD τ).loc main_arg2)) (m ((c : Thread nD τ).loc main_arg3)) (rowOf t p) l :=
  distV_eq_curveDist _ _ _ _ p l (curve (n := 1024) (m ((c : Thread nD τ).loc main_arg0)) (rowOf t p))
    (curve (n := 4096) (m ((c : Thread nD τ).loc main_arg1)) l)
    (bits (n := 1024) (m ((c : Thread nD τ).loc main_arg2)) (rowOf t p))
    (bits (n := 4096) (m ((c : Thread nD τ).loc main_arg3)) l)
    (fun _ _ => h0 _) (fun _ _ => h1 _)
    (fun k s => iblk_left m c t k p s) (fun k s => iblk_right m c t k s l)
    (fun s => iblk_leftBits m c t p s) (fun s => iblk_rightBits m c t s l)

/-- Round `r` of a point's row: the row's `r`-th least distance and where it is. -/
theorem round_block (t : Fin cfg0.N) (p : Fin 512) (r : Fin 16) :
    let d := dist (m ((c : Thread nD τ).loc main_arg0)) (m ((c : Thread nD τ).loc main_arg1))
      (m ((c : Thread nD τ).loc main_arg2)) (m ((c : Thread nD τ).loc main_arg3)) (rowOf t p)
    let s := sortedFrom (lexBefore d) (r.castLE (by decide))
    leastV (roundV (iblk m c 0 t) (iblk m c 1 t) (iblk m c 2 t) (iblk m c 3 t) r) (ix2 p 0) = d s
      ∧ pickV (roundV (iblk m c 0 t) (iblk m c 1 t) (iblk m c 2 t) (iblk m c 3 t) r) (ix2 p 0) = (((s : ℕ) : ℝ) : EReal) := by
  have hrow : (fun l => distV (iblk m c 0 t) (iblk m c 1 t) (iblk m c 2 t) (iblk m c 3 t) (ix2 p l))
      = dist (m ((c : Thread nD τ).loc main_arg0)) (m ((c : Thread nD τ).loc main_arg1))
        (m ((c : Thread nD τ).loc main_arg2)) (m ((c : Thread nD τ).loc main_arg3)) (rowOf t p) :=
    funext fun l => distV_block m c h0 h1 t p l
  have key := round_sorted (iblk m c 0 t) (iblk m c 1 t) (iblk m c 2 t) (iblk m c 3 t) p
    (fun j => by
      rw [distV_block m c h0 h1 t p j]
      exact curveDist_ne_top (fun _ _ => h0 _) (fun _ _ => h1 _) _ _) r
  intro d s
  dsimp only at key
  rw [hrow] at key
  exact ⟨key.1.trans (congrFun hrow _), key.2⟩

/-- THE FIRST RESULT ARRAY holds each row's sixteen least distances. -/
theorem final_4 : (dats m 0 c).arrAt 4 cfg0.N
    = leastOut (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  rw [after0_4, out4_eq, View.canon_unit_zero offsets_zero]
  obtain ⟨p, r, rfl⟩ : ∃ (p : Fin 512) (r : Fin 16), y = ix2 p r := ⟨y 0, y 1, funext fun a => by fin_cases a <;> rfl⟩
  have he : (win0_4.blk t).view.emb (ix2 p r) = ix2 (rowOf t p) r := by
    blk_ext [index_4, rowOf_val]
  rw [he]
  exact (columns_apply _ p r).trans (round_block m c h0 h1 t p r).1

/-- THE SECOND RESULT ARRAY holds the right curves they belong to. -/
theorem final_5 : (dats m 0 c).arrAt 5 cfg0.N
    = whichOut (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t hf y => ?_
  blk_simp
  rw [after0_5, out5_eq, View.canon_unit_zero offsets_zero]
  obtain ⟨p, r, rfl⟩ : ∃ (p : Fin 512) (r : Fin 16), y = ix2 p r := ⟨y 0, y 1, funext fun a => by fin_cases a <;> rfl⟩
  have he : (win0_5.blk t).view.emb (ix2 p r) = ix2 (rowOf t p) r := by
    blk_ext [index_5, rowOf_val]
  rw [he]
  refine (congrArg (Ideal.fptosi 32) (columns_apply _ p r)).trans ?_
  rw [(round_block m c h0 h1 t p r).2]
  exact fptosi_nat _

end Cert.Knn
-- ==== Proof.RefStages.lean ====
module

public import proofs.«01_k».proof.Proof.Spec
public import proofs.«01_k».proof.Proof.Gen.ReferenceIdeal.Run

@[expose] public section

/-! # The reference's stages

The reference's composed term, cut into named stages. -/

noncomputable section

namespace Cert.Knn

open Idealize.ShloMosaic Cert.ReferenceIdeal Cert.ReferenceIdeal.Gen

variable (a0 : FVec Ideal S16x1024x3 .f32) (a1 : FVec Ideal S16x4096x3 .f32) (a2 : IVec S16x1024 1) (a3 : IVec S16x4096 1)

/-- The slots both sides hold, as numbers. -/
def refBits : FVec Ideal S16x1024x4096 .f32 :=
  uitofp .f32 (andi (broadcastInDim S16x1024x4096 ![0, 1, 2] bcast_S16x1024x1_S16x1024x4096_0_1_2 (broadcastInDim S16x1024x1 ![0, 1] bcast_S16x1024_S16x1024x1_0_1 a2)) (broadcastInDim S16x1024x4096 ![0, 1, 2] bcast_S16x1x4096_S16x1024x4096_0_1_2 (broadcastInDim S16x1x4096 ![0, 2] bcast_S16x4096_S16x1x4096_0_2 a3)))

/-- The slot distances, nought at a slot that is not shared. -/
def refPairs : FVec Ideal S16x1024x4096 .f32 :=
  mulf (Host.sqrt (maximumf (subf (addf (broadcastInDim S16x1024x4096 ![0, 1, 2] bcast_S16x1024x1_S16x1024x4096_0_1_2 (broadcastInDim S16x1024x1 ![0, 1] bcast_S16x1024_S16x1024x1_0_1 (Host.reduceAdd (mulf a0 a0) (constant S_ .f32 0x00000000#32) reducesTo_S16x1024x3_S16x1024_d2 h_S_))) (broadcastInDim S16x1024x4096 ![0, 1, 2] bcast_S16x1x4096_S16x1024x4096_0_1_2 (broadcastInDim S16x1x4096 ![0, 2] bcast_S16x4096_S16x1x4096_0_2 (Host.reduceAdd (mulf a1 a1) (constant S_ .f32 0x00000000#32) reducesTo_S16x4096x3_S16x4096_d2 h_S_)))) (mulf (broadcastInDim S16x1024x4096 ![] bcast_S_S16x1024x4096 (constant S_ .f32 0x40000000#32)) (Host.dotGeneral dot_S16x1024x3_S16x4096x3_S16x1024x4096_2_2_1_1_0_0 none a0 a1))) (broadcastInDim S16x1024x4096 ![] bcast_S_S16x1024x4096 (constant S_ .f32 0x2B8CBCCC#32)))) (refBits a2 a3)

/-- Three sixteenths of the shared count, rounded up. -/
def refShare : FVec Ideal S1024x4096 .f32 :=
  Host.ceil (Host.divf (mulf (broadcastInDim S1024x4096 ![] bcast_S_S1024x4096 (constant S_ .f32 0x40400000#32)) (Host.reduceAdd (refBits a2 a3) (constant S_ .f32 0x00000000#32) reducesTo_S16x1024x4096_S1024x4096_d0 h_S_)) (broadcastInDim S1024x4096 ![] bcast_S_S1024x4096 (constant S_ .f32 0x41800000#32)))

/-- Which of the sorted slot distances is taken: 0, 1 or 2. -/
def refPick : IVec S1024x4096 32 :=
  minsi (broadcastInDim S1024x4096 ![] bcast_S_S1024x4096 (id (constantI S_ 32 2#32))) (maxsi (broadcastInDim S1024x4096 ![] bcast_S_S1024x4096 (id (constantI S_ 32 0#32))) (subi (fptosi 32 (refShare a2 a3)) (broadcastInDim S1024x4096 ![] bcast_S_S1024x4096 (constantI S_ 32 1#32))))

/-- The three greatest slot distances, descending. -/
def refSorted : FVec Ideal S3x1024x4096 .f32 :=
  extractStridedSlice S3x1024x4096 ![0, 0, 0] (Host.negf (Host.sort S16x1024x4096 0 comparator_f32_d0 (Host.negf (refPairs a0 a1 a2 a3)))) slices_S16x1024x4096_S3x1024x4096_0_0_0

/-- The pick as the lookup takes it, a negative one counted from the end. -/
def refStart (p : IVec S1024x4096 32) : IVec S1x1024x4096x1 32 :=
  shapeCast _ (select (cmpi .slt (broadcastInDim S1x1024x4096 ![1, 2] bcast_S1024x4096_S1x1024x4096_1_2 p) (broadcastInDim S1x1024x4096 ![] bcast_S_S1x1024x4096 (constantI S_ 32 0#32))) (addi (broadcastInDim S1x1024x4096 ![1, 2] bcast_S1024x4096_S1x1024x4096_1_2 p) (broadcastInDim S1x1024x4096 ![] bcast_S_S1x1024x4096 (constantI S_ 32 3#32))) (broadcastInDim S1x1024x4096 ![1, 2] bcast_S1024x4096_S1x1024x4096_1_2 p)) shapeCasts_S1x1024x4096_S1x1024x4096x1

/-- Whether the lookup stays within the three. -/
def refOk (q : IVec S1x1024x4096x1 32) : IVec S1x1024x4096x1 1 :=
  andi (cmpi .sge q (broadcastInDim S1x1024x4096x1 ![] bcast_S_S1x1024x4096x1 (constantI S_ 32 0#32))) (cmpi .sle q (broadcastInDim S1x1024x4096x1 ![0, 1, 2, 3] bcast_S1x1x1x1_S1x1024x4096x1_0_1_2_3 (broadcastInDim S1x1x1x1 ![3] bcast_S1_S1x1x1x1_3 (constantI S1 32 2#32))))

/-- The lookup of a pick among the three. -/
def refTake (x : FVec Ideal S3x1024x4096 .f32) (q : IVec S1x1024x4096x1 32) : FVec Ideal S1x1024x4096 .f32 :=
  select (Host.reduce IntOp.andi (refOk q) (constantI S_ 1 1#1) reducesTo_S1x1024x4096x1_S1x1024x4096_d3 h_S_) (Host.gather gather_S3x1024x4096_S1x1024x4096x1_S1x1024x4096_n_0_12_12_0_3_111 x q) (broadcastInDim S1x1024x4096 ![] bcast_S_S1x1024x4096 (constant S_ .f32 0x7FC00000#32))

/-- The distances of all pairs. -/
def refDist : FVec Ideal S1024x4096 .f32 :=
  shapeCast _ (refTake (refSorted a0 a1 a2 a3) (refStart (refPick a2 a3))) shapeCasts_S1x1024x4096_S1024x4096

/-- The sixteen least of each row and where they stand. -/
def refTop (d : FVec Ideal S1024x4096 .f32) : FVec Ideal S1024x16 .f32 × IVec S1024x16 32 :=
  Host.topK S1024x16 1 (FloatOps.cmpfTotal .gt) (Host.negf d) sliceFits_S1024x4096_S1024x16

open Cert.ReferenceIdeal.Value Idealize.ShloMosaic.TcCoe in
/-- The first result is the stages' composition. -/
theorem res_least (m : (ℓ : Loc nD τ sig) → Buf (Elt Ideal) ℓ) (c : Dev nD) :
    res_out0 m c = Host.negf (refTop (refDist (m ((c : Thread nD τ).loc main_arg0)) (m ((c : Thread nD τ).loc main_arg1))
      (m ((c : Thread nD τ).loc main_arg2)) (m ((c : Thread nD τ).loc main_arg3)))).1 := by
  unfold res_out0 res_main_v41
  rfl

open Cert.ReferenceIdeal.Value Idealize.ShloMosaic.TcCoe in
/-- The second result is the stages' composition. -/
theorem res_which (m : (ℓ : Loc nD τ sig) → Buf (Elt Ideal) ℓ) (c : Dev nD) :
    res_out1 m c = (refTop (refDist (m ((c : Thread nD τ).loc main_arg0)) (m ((c : Thread nD τ).loc main_arg1))
      (m ((c : Thread nD τ).loc main_arg2)) (m ((c : Thread nD τ).loc main_arg3)))).2 := by
  unfold res_out1 res_main_indices
  rfl

end Cert.Knn
-- ==== Proof.RefVal.lean ====
module

public import proofs.«01_k».proof.Proof.RefStages
public import Idealize.ShloMosaic.Lib.Pointwise
public import Idealize.ShloMosaic.Lib.ReduceAll
public import Idealize.ShloMosaic.Lib.ValueIdxCore

@[expose] public section

/-! # The reference's results

Each stage of the reference read at one index, and from them its two results. -/

noncomputable section

namespace Cert.Knn

open Idealize.ShloMosaic Cert.ReferenceIdeal Cert.ReferenceIdeal.Gen

variable (a0 : FVec Ideal S16x1024x3 .f32) (a1 : FVec Ideal S16x4096x3 .f32) (a2 : IVec S16x1024 1) (a3 : IVec S16x4096 1)

/-- A slot's bit at a pair. -/
theorem refBits_apply (t : Fin 16) (i : Fin 1024) (j : Fin 4096) :
    refBits a2 a3 (ix3 t i j) = if Shared (bits a2 i) (bits a3 j) t then 1 else 0 := by
  have h : refBits a2 a3 (ix3 t i j) = ((((IntOp.andi (bits a2 i t) (bits a3 j t)).toNat : ℝ)) : EReal) := by
    pointwise [refBits]
    rfl
  rw [h]
  by_cases hs : Shared (bits a2 i) (bits a3 j) t
  · rw [if_pos hs, hs.1, hs.2]
    simp [IntOp.andi]
  · rw [if_neg hs]
    unfold Shared at hs
    rcases BitVec.eq_zero_or_eq_one (bits a2 i t) with h | h <;> rcases BitVec.eq_zero_or_eq_one (bits a3 j t) with g | g
    · rw [h, g]; simp [IntOp.andi]
    · rw [h, g]; simp [IntOp.andi]
    · rw [h, g]; simp [IntOp.andi]
    · exact absurd ⟨h, g⟩ hs

/-- A slot's distance at a pair. -/
theorem refPairs_apply (t : Fin 16) (i : Fin 1024) (j : Fin 4096) :
    refPairs a0 a1 a2 a3 (ix3 t i j) = root (sqDist (curve a0 i t) (curve a1 j t)) * refBits a2 a3 (ix3 t i j) := by
  pointwise [refPairs]
  rw [Fin.sum_univ_three, Fin.sum_univ_three, Fin.sum_univ_three, ofBits_two]
  rfl

/-- The rounded share at a pair. -/
theorem refShare_apply (i : Fin 1024) (j : Fin 4096) :
    refShare a2 a3 (ix2 i j) = Ideal.liftRound Int.ceil
      (Ideal.div (((3 : ℝ) : EReal) * ((sharedCount (bits a2 i) (bits a3 j) : ℝ) : EReal)) ((16 : ℝ) : EReal)) := by
  have h : ∑ t : Fin 16, refBits a2 a3 (ix3 t i j) = ((sharedCount (bits a2 i) (bits a3 j) : ℝ) : EReal) := by
    rw [Finset.sum_congr rfl fun t _ => refBits_apply a2 a3 t i j, Finset.sum_boole, sharedCount]
    rfl
  rw [← h]
  pointwise [refShare]
  rw [ofBits_three, ofBits_sixteen]

/-- Three sixteenths of a count up to sixteen, rounded up, less one, kept within 0 and 2, is the count's rank. -/
theorem rank_word (c : ℕ) (hc : c ≤ 16) :
    IntOp.minsi 2#32 (IntOp.maxsi 0#32 (IntOp.subi (Ideal.fptosi 32 (Ideal.liftRound Int.ceil
      (Ideal.div (((3 : ℝ) : EReal) * ((c : ℝ) : EReal)) ((16 : ℝ) : EReal)))) 1#32)) = BitVec.ofNat 32 (rank c) := by
  have h : Ideal.liftRound Int.ceil (Ideal.div (((3 : ℝ) : EReal) * ((c : ℝ) : EReal)) ((16 : ℝ) : EReal))
      = (((⌈3 * (c : ℝ) * (1 / 16)⌉ : ℤ) : ℝ) : EReal) := by
    rw [Ideal.div_coe (by norm_num), ← EReal.coe_mul, ← EReal.coe_mul, Ideal.liftRound_coe]
  have hz : ⌈3 * (c : ℝ) * (1 / 16)⌉ = (((3 * c + 15) / 16 : ℕ) : ℤ) := by
    rw [Int.ceil_eq_iff]
    interval_cases c <;> norm_num
  rw [h, hz, Int.cast_natCast, Ideal.fptosi, Ideal.toIntClamped_coe, if_pos (Nat.cast_nonneg _), Int.floor_natCast]
  interval_cases c <;> rfl

/-- The pick at a pair. -/
theorem refPick_apply (i : Fin 1024) (j : Fin 4096) :
    refPick a2 a3 (ix2 i j) = BitVec.ofNat 32 (rank (sharedCount (bits a2 i) (bits a3 j))) := by
  rw [← rank_word _ (sharedCount_le _ _), ← refShare_apply]
  pointwise [refPick]
  rfl

/-- The sort's order, at the ideal instance, is the plain one. -/
theorem before_ideal (l r : EReal) : (comparator_f32_d0 (F := Ideal) l r == 1#1) = decide (l < r) := by
  have h0 : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32))
        (FloatOps.ofBits (F := Ideal) .f32 0x00000000#32) x) = x := by
    intro x
    have hz : (FloatOps.ofBits (F := Ideal) .f32 0x00000000#32 : EReal) = 0 := Ideal.ofBits_zero_f32
    have h1 : FloatOps.cmpf (F := Ideal) (φ := .f32) .une x x = 0#1 := by
      rw [Ideal.cmpf_def]; simp [Ideal.cmp]
    rw [h1, hz]
    by_cases hx : x = 0
    · subst hx; simp [Scalar.select]
    · have h2 : FloatOps.cmpf (F := Ideal) (φ := .f32) .oeq x (0 : EReal) = 0#1 := by
        rw [Ideal.cmpf_def]; simp [Ideal.cmp, hx]
      rw [h2]; simp [Scalar.select]
  have h : comparator_f32_d0 (F := Ideal) l r = BitVec.ofBool (decide (l < r)) := by
    unfold comparator_f32_d0
    dsimp only
    rw [h0, h0]
    rfl
  rw [h]
  by_cases hlr : l < r <;> simp [hlr]

/-- The `r`-th greatest slot distance at a pair. -/
theorem refSorted_apply (r : Fin 3) (i : Fin 1024) (j : Fin 4096) :
    refSorted a0 a1 a2 a3 (ix3 r i j) = - -refPairs a0 a1 a2 a3 (ix3 (sortedFrom (fun k k' : Fin 16 =>
      decide (-refPairs a0 a1 a2 a3 (ix3 k i j) < -refPairs a0 a1 a2 a3 (ix3 k' i j))) (r.castLE (by decide))) i j) := by
  have ha : ∀ (z k : Fin 16), Shape.Idx.along (s := S16x1024x4096) (ix3 z i j) 0 k = ix3 k i j := by
    intro z k
    funext a
    match a with
    | ⟨0, _⟩ => rfl
    | ⟨1, _⟩ => rfl
    | ⟨2, _⟩ => rfl
  generalize hg : refPairs a0 a1 a2 a3 = g
  pointwise [refSorted]
  rw [hg]
  refine congrArg (fun x : EReal => -x) ?_
  unfold Host.sort
  rw [dif_pos (by decide)]
  have e : ∀ k, Host.negf g (Shape.Idx.along (s := S16x1024x4096) (ix3 ⟨r.val, by omega⟩ i j) 0 k) = -g (ix3 k i j) :=
    fun k => congrArg (Host.negf g) (ha _ k)
  refine (e _).trans ?_
  refine congrArg (fun k => -g (ix3 k i j)) ?_
  refine congrArg (fun R => sortedFrom R (r.castLE (by decide) : Fin 16)) ?_
  funext k k'
  exact (congrArg₂ (fun x y => comparator_f32_d0 (F := Ideal) x y == 1#1) (e k) (e k')).trans (before_ideal _ _)

/-- A pick that is not negative is looked up as it is. -/
theorem refStart_apply (p : IVec S1024x4096 32) (i : Fin 1024) (j : Fin 4096) (n : ℕ) (hn : n < 3)
    (hp : p (ix2 i j) = BitVec.ofNat 32 n) :
    refStart p (ix4 0 i j 0) = BitVec.ofNat 32 n := by
  pointwise [refStart]
  rw [hp]
  interval_cases n <;> rfl

/-- Such a pick is within the three. -/
theorem refOk_apply (q : IVec S1x1024x4096x1 32) (x : S1x1024x4096x1.Idx) (n : ℕ) (hn : n < 3) (hq : q x = BitVec.ofNat 32 n) :
    refOk q x = 1#1 := by
  have h : refOk q x = IntOp.andi (IntOp.cmpi .sge (q x) 0#32) (IntOp.cmpi .sle (q x) 2#32) := by
    rw [ValueIdx.eq_ix4 x]
    pointwise [refOk]
  rw [h, hq]
  interval_cases n <;> rfl

/-- The lookup read at a pair: the operand at the pair's own start index, kept within the three. -/
theorem gather_apply (x : FVec Ideal S3x1024x4096 .f32) (q : IVec S1x1024x4096x1 32) (i : Fin 1024) (j : Fin 4096) :
    Host.gather gather_S3x1024x4096_S1x1024x4096x1_S1x1024x4096_n_0_12_12_0_3_111 x q (ix3 0 i j)
      = x (ix3 ⟨min (q (ix4 0 i j 0)).toInt.toNat 2, by omega⟩ i j) := by
  unfold Host.gather
  congr 1
  funext a
  refine Fin.ext ?_
  show GatherDims.start _ (ix3 0 i j) q a + GatherDims.batchCoord _ (ix3 0 i j) a + GatherDims.offCoord _ (ix3 0 i j) a = _
  have hcases : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases hcases with rfl | rfl | rfl
  · rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S3x1024x4096_S1x1024x4096x1_S1x1024x4096_n_0_12_12_0_3_111.startIndexMap from List.mem_singleton.mpr rfl)]
    have hsi : ∀ h, GatherDims.siIdx gather_S3x1024x4096_S1x1024x4096x1_S1x1024x4096_n_0_12_12_0_3_111 (ix3 0 i j) ⟨0, h⟩ = ix4 0 i j 0 := by
      intro h
      funext b; refine Fin.ext ?_
      match b with
      | ⟨0, _⟩ => rfl
      | ⟨1, _⟩ => rfl
      | ⟨2, _⟩ => rfl
      | ⟨3, _⟩ => rfl
    exact congrArg (fun y => min (q y).toInt.toNat 2) (hsi _)
  · rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  · rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl

/-- The lookup of picks below three. -/
theorem refTake_apply (x : FVec Ideal S3x1024x4096 .f32) (p : IVec S1024x4096 32) (n : Fin 1024 → Fin 4096 → Fin 3)
    (hp : ∀ i j, p (ix2 i j) = BitVec.ofNat 32 (n i j)) (i : Fin 1024) (j : Fin 4096) :
    refTake x (refStart p) (ix3 0 i j) = x (ix3 (n i j) i j) := by
  have hs : ∀ i j, refStart p (ix4 0 i j 0) = BitVec.ofNat 32 (n i j) :=
    fun i j => refStart_apply p i j (n i j) (n i j).isLt (hp i j)
  have hall : ∀ y, refOk (refStart p) y = 1#1 := by
    intro y
    have hy : y = ix4 0 (y 1) (y 2) 0 := by
      rw [ValueIdx.eq_ix4 y]
      exact congrArg₂ (fun (u v : Fin 1) => ix4 u (y 1) (y 2) v) (Subsingleton.elim (α := Fin 1) _ _) (Subsingleton.elim (α := Fin 1) _ _)
    exact refOk_apply _ y (n (y 1) (y 2)) (n (y 1) (y 2)).isLt (by rw [hy]; exact hs _ _)
  have hred := Host.reduce_andi_one (refOk (refStart p)) (constantI S_ 1 1#1) reducesTo_S1x1024x4096x1_S1x1024x4096_d3 h_S_
    (ix3 0 i j) rfl hall
  unfold refTake
  show Scalar.select _ _ _ = _
  rw [hred, Scalar.select, if_pos (by decide), gather_apply]
  refine congrArg (fun k => x (ix3 k i j)) (Fin.ext ?_)
  show min (refStart p (ix4 0 i j 0)).toInt.toNat 2 = (n i j : ℕ)
  rw [hs]
  generalize n i j = k
  fin_cases k <;> rfl

/-- The reference's distance of a pair is the curves' distance. -/
theorem refDist_apply (h0 : AllReal a0) (h1 : AllReal a1) (i : Fin 1024) (j : Fin 4096) :
    refDist a0 a1 a2 a3 (ix2 i j) = dist a0 a1 a2 a3 i j := by
  have e : refDist a0 a1 a2 a3 (ix2 i j) = refTake (refSorted a0 a1 a2 a3) (refStart (refPick a2 a3)) (ix3 0 i j) := by
    pointwise [refDist]
  rw [e, refTake_apply _ _ (fun i j => ⟨rank (sharedCount (bits a2 i) (bits a3 j)), rank_lt _⟩) (fun i j => refPick_apply a2 a3 i j),
    refSorted_apply]
  have hreal : ∀ t, ∃ r : ℝ, sqDist (curve a0 i t) (curve a1 j t) = (r : EReal) :=
    fun t => sqDist_real (fun k => h0 _) (fun k => h1 _)
  unfold dist curveDist
  refine pairDist_eq (slot (curve a0 i) (curve a1 j) (bits a2 i) (bits a3 j)) (fun t => sqDist (curve a0 i t) (curve a1 j t))
    (fun t => refPairs a0 a1 a2 a3 (ix3 t i j)) (Shared (bits a2 i) (bits a3 j)) ?_ ?_ ?_ _ (fun _ _ => rfl) _ rfl
  · intro t
    obtain ⟨r, hr⟩ := hreal t
    rw [hr]; exact EReal.coe_ne_bot r
  · intro t
    unfold slot
    rw [slotIx_val]
  · intro t
    rw [refPairs_apply, refBits_apply]
    split
    · rw [mul_one]
    · rw [mul_zero]

end Cert.Knn
-- ==== Proof.RefTop.lean ====
module

public import proofs.«01_k».proof.Proof.RefStages
public import proofs.«01_k».proof.Proof.Rounds
public import Idealize.ShloMosaic.Lib.Pointwise
public import Idealize.ShloMosaic.Lib.ValueIdxCore

@[expose] public section

/-! # The reference's last step

The sixteen least distances of each row, and where they stand, for any array of distances. -/

noncomputable section

namespace Cert.Knn

open Idealize.ShloMosaic Cert.ReferenceIdeal Cert.ReferenceIdeal.Gen

/-- The order of the last step, at the ideal instance. -/
theorem after_ideal (x y : EReal) : (FloatOps.cmpfTotal (F := Ideal) (φ := .f32) .gt (-x) (-y) == 1#1) = decide (x < y) := by
  have h : FloatOps.cmpfTotal (F := Ideal) (φ := .f32) .gt (-x) (-y) = BitVec.ofBool (decide (-y < -x)) := rfl
  rw [h]
  by_cases hxy : x < y <;> simp [hxy]

/-- The last step keeps the first sixteen of each row. -/
theorem kept_apply {α : Type} (f : S1024x4096.Idx → α) (i : Fin 1024) (r : Fin 16) :
    extractStridedSlice S1024x16 (fun _ => 0) f sliceFits_S1024x4096_S1024x16 (ix2 i r) = f (ix2 i (r.castLE (by decide))) := by
  unfold extractStridedSlice
  refine congrArg f ?_
  funext a
  match a with
  | ⟨0, _⟩ => exact Fin.ext (Nat.zero_add _)
  | ⟨1, _⟩ => exact Fin.ext (Nat.zero_add _)

/-- A position along a row. -/
theorem along_row (i : Fin 1024) (z k : Fin 4096) : Shape.Idx.along (s := S1024x4096) (ix2 i z) (1 : Fin 2) k = ix2 i k := by
  funext a
  match a with
  | ⟨0, _⟩ => rfl
  | ⟨1, _⟩ => rfl

/-- A row sorted together with a second array, the first result at an index. -/
theorem sort2_fst {α β : Type} (cmp : α × β → α × β → BitVec 1) (x : S1024x4096.Idx → α) (y : S1024x4096.Idx → β)
    (i : Fin 1024) (z : Fin 4096) :
    (Host.sort2 S1024x4096 1 cmp x y).1 (ix2 i z) = x (ix2 i (sortedFrom (n := 4096)
      (fun k k' => cmp (x (ix2 i k), y (ix2 i k)) (x (ix2 i k'), y (ix2 i k')) == 1#1) z)) := by
  unfold Host.sort2
  rw [dif_pos (show 1 < S1024x4096.rank by decide)]
  refine (congrArg x (along_row i z _)).trans ?_
  refine congrArg (fun k => x (ix2 i k)) ?_
  refine congrArg (fun R => sortedFrom (n := 4096) R z) ?_
  funext k k'
  exact congrArg₂ (fun u v => cmp (x u, y u) (x v, y v) == 1#1) (along_row i z k) (along_row i z k')

/-- The second result at an index. -/
theorem sort2_snd {α β : Type} (cmp : α × β → α × β → BitVec 1) (x : S1024x4096.Idx → α) (y : S1024x4096.Idx → β)
    (i : Fin 1024) (z : Fin 4096) :
    (Host.sort2 S1024x4096 1 cmp x y).2 (ix2 i z) = y (ix2 i (sortedFrom (n := 4096)
      (fun k k' => cmp (x (ix2 i k), y (ix2 i k)) (x (ix2 i k'), y (ix2 i k')) == 1#1) z)) := by
  unfold Host.sort2
  rw [dif_pos (show 1 < S1024x4096.rank by decide)]
  refine (congrArg y (along_row i z _)).trans ?_
  refine congrArg (fun k => y (ix2 i k)) ?_
  refine congrArg (fun R => sortedFrom (n := 4096) R z) ?_
  funext k k'
  exact congrArg₂ (fun u v => cmp (x u, y u) (x v, y v) == 1#1) (along_row i z k) (along_row i z k')

/-- The row's order in the last step is by the distance and then the position. -/
theorem row_order (d : FVec Ideal S1024x4096 .f32) (i : Fin 1024) :
    sortedFrom (n := 4096) (fun k k' => FloatOps.cmpfTotal (F := Ideal) (φ := .f32) .gt
      (Host.negf d (ix2 i k)) (Host.negf d (ix2 i k')) == 1#1)
    = sortedFrom (lexBefore fun k => d (ix2 i k)) :=
  sortedFrom_eq_lex (fun k => d (ix2 i k)) _ fun _ _ => after_ideal _ _

/-- The negated array at an index. -/
theorem negf_at {s : Shape} (f : FVec Ideal s .f32) (x : s.Idx) : Host.negf f x = -(f x : EReal) := rfl

/-- The last step's values. -/
theorem refTop_value (d : FVec Ideal S1024x4096 .f32) (i : Fin 1024) (r : Fin 16) :
    (refTop d).1 (ix2 i r) = -(d (ix2 i (sortedFrom (lexBefore fun k => d (ix2 i k)) (r.castLE (by decide)))) : EReal) := by
  rw [← row_order d i]
  unfold refTop Host.topK
  dsimp only
  rw [kept_apply, sort2_fst]
  exact negf_at d _

/-- A position's own number along its row. -/
theorem iota_at (i : Fin 1024) (z : Fin 4096) : iotaInDim S1024x4096 32 (1 : Fin 2) (ix2 i z) = BitVec.ofNat 32 z := by
  pointwise

/-- Where the last step's values stand. -/
theorem refTop_place (d : FVec Ideal S1024x4096 .f32) (i : Fin 1024) (r : Fin 16) :
    (refTop d).2 (ix2 i r) = BitVec.ofNat 32 (sortedFrom (lexBefore fun k => d (ix2 i k)) (r.castLE (by decide))) := by
  rw [← row_order d i]
  unfold refTop Host.topK
  dsimp only
  rw [kept_apply, sort2_snd]
  rw [dif_pos (show 1 < S1024x4096.rank by decide)]
  exact iota_at i _

/-- The last step's values are the row's least distances. -/
theorem refTop_least (d : FVec Ideal S1024x4096 .f32) (D : Fin 1024 → Fin 4096 → EReal) (hD : ∀ i j, d (ix2 i j) = D i j)
    (i : Fin 1024) (r : Fin 16) :
    Host.negf (refTop d).1 (ix2 i r) = D i (sortedFrom (lexBefore (D i)) (r.castLE (by decide))) := by
  have h : (fun k => (d (ix2 i k) : EReal)) = D i := funext (hD i)
  rw [negf_at, refTop_value, neg_neg, h, hD]

/-- Where they stand. -/
theorem refTop_which (d : FVec Ideal S1024x4096 .f32) (D : Fin 1024 → Fin 4096 → EReal) (hD : ∀ i j, d (ix2 i j) = D i j)
    (i : Fin 1024) (r : Fin 16) :
    (refTop d).2 (ix2 i r) = BitVec.ofNat 32 (sortedFrom (lexBefore (D i)) (r.castLE (by decide))) := by
  have h : (fun k => (d (ix2 i k) : EReal)) = D i := funext (hD i)
  rw [refTop_place, h]

end Cert.Knn
-- ==== Proof.RefOut.lean ====
module

public import proofs.«01_k».proof.Proof.RefVal
public import proofs.«01_k».proof.Proof.RefTop

@[expose] public section

/-! # The reference's two results

They are the sixteen least distances of each left curve and the right curves they belong to. -/

noncomputable section

namespace Cert.Knn

open Idealize.ShloMosaic Cert.ReferenceIdeal Cert.ReferenceIdeal.Gen

/-- The first result at an index. -/
theorem leastOut_at (a0 : Points 1024) (a1 : Points 4096) (a2 : Masks 1024) (a3 : Masks 4096) (i : Fin 1024) (r : Fin 16) :
    leastOut a0 a1 a2 a3 (ix2 i r)
      = dist a0 a1 a2 a3 i (sortedFrom (lexBefore (dist a0 a1 a2 a3 i)) (r.castLE (by decide))) := by
  unfold leastOut nearest
  rfl

/-- The second result at an index. -/
theorem whichOut_at (a0 : Points 1024) (a1 : Points 4096) (a2 : Masks 1024) (a3 : Masks 4096) (i : Fin 1024) (r : Fin 16) :
    whichOut a0 a1 a2 a3 (ix2 i r)
      = BitVec.ofNat 32 (sortedFrom (lexBefore (dist a0 a1 a2 a3 i)) (r.castLE (by decide))) := by
  unfold whichOut nearest
  rfl

variable (a0 : FVec Ideal S16x1024x3 .f32) (a1 : FVec Ideal S16x4096x3 .f32) (a2 : IVec S16x1024 1) (a3 : IVec S16x4096 1)

/-- The first result of the reference. -/
theorem ref_least (h0 : AllReal a0) (h1 : AllReal a1) :
    Host.negf (refTop (refDist a0 a1 a2 a3)).1 = leastOut a0 a1 a2 a3 := by
  funext x
  obtain ⟨i, r, rfl⟩ : ∃ (i : Fin 1024) (r : Fin 16), x = ix2 i r := ⟨x 0, x 1, ValueIdx.eq_ix2 x⟩
  exact (refTop_least _ (dist a0 a1 a2 a3) (refDist_apply a0 a1 a2 a3 h0 h1) i r).trans (leastOut_at a0 a1 a2 a3 i r).symm

/-- The second result of the reference. -/
theorem ref_which (h0 : AllReal a0) (h1 : AllReal a1) :
    (refTop (refDist a0 a1 a2 a3)).2 = whichOut a0 a1 a2 a3 := by
  funext x
  obtain ⟨i, r, rfl⟩ : ∃ (i : Fin 1024) (r : Fin 16), x = ix2 i r := ⟨x 0, x 1, ValueIdx.eq_ix2 x⟩
  exact (refTop_which _ (dist a0 a1 a2 a3) (refDist_apply a0 a1 a2 a3 h0 h1) i r).trans (whichOut_at a0 a1 a2 a3 i r).symm

end Cert.Knn
-- ==== Proof.PreReal.lean ====
module

public import proofs.«01_k».proof.Proof.Spec
public import proofs.«01_k».proof.Proof.Gen.Pre_finite
public import Idealize.ShloMosaic.Lib.ReduceAll

@[expose] public section

/-! # What the precondition says

Where it is all ones, every coordinate of either points' array is a real number. -/

noncomputable section

namespace Cert.Knn

open Idealize.ShloMosaic Cert.Pre_finite Cert.Pre_finite.Facts

/-- A value of magnitude below the top is a real number. -/
theorem real_of_below (x : EReal) (h : FloatOps.cmpf (F := Ideal) (φ := .f32) .olt (max x (-x) : EReal)
    (FloatOps.ofBits (F := Ideal) .f32 0x7F800000#32) = 1#1) : ∃ r : ℝ, x = (r : EReal) := by
  have ht : (FloatOps.ofBits (F := Ideal) .f32 0x7F800000#32 : EReal) = ⊤ := ofBits_top
  rw [ht, Ideal.cmpf_def] at h
  induction x with
  | bot => simp [Ideal.cmp] at h
  | top => simp [Ideal.cmp] at h
  | coe r => exact ⟨r, rfl⟩

variable [Cert.Pre_finite.Facts]

/-- The precondition makes both points' arrays real. -/
theorem real_of_pre (a0 : FVec Ideal S16x1024x3 .f32) (a1 : FVec Ideal S16x4096x3 .f32) (a2 : IVec S16x1024 1)
    (a3 : IVec S16x4096 1) (h : Cert.Pre_finite.fn (F := Ideal) a0 a1 a2 a3 = fun _ => 1#1) :
    AllReal a0 ∧ AllReal a1 := by
  haveI : Subsingleton S_.Idx := ⟨fun _ _ => funext fun a => a.elim0⟩
  have hj := congrFun h ix0
  unfold Cert.Pre_finite.fn at hj
  dsimp only at hj
  obtain ⟨e0, e1⟩ := IntOp.andi_eq_one.1 hj
  exact ⟨fun x => real_of_below _ (Host.reduce_andi_all _ _ _ _ _ e0 x), fun x => real_of_below _ (Host.reduce_andi_all _ _ _ _ _ e1 x)⟩

end Cert.Knn
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Pre_finite
public import proofs.«01_k».proof.Proof.KArr
public import proofs.«01_k».proof.Proof.RefOut
public import proofs.«01_k».proof.Proof.PreReal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs and leaves its arguments and counters as they were. -/
theorem frame_kernel : Cert.quiescent_Kernel (hKernel := Cert.Kernel.Gen.facts) :=
  fun m ρ _ => Cert.Kernel.Gen.frame m ρ

/-- So does the kernel over the extended reals. -/
theorem frame_ideal : Cert.quiescent_KernelIdeal (hKernelIdeal := Cert.KernelIdeal.Gen.facts) :=
  fun m ρ _ => Cert.KernelIdeal.Gen.frame m ρ

/-- In particular where the precondition holds. -/
theorem frame_ideal_finite :
    Cert.quiescent_KernelIdeal_pre_finite (hKernelIdeal := Cert.KernelIdeal.Gen.facts) (hPre_finite := Cert.Pre_finite.Gen.facts) :=
  fun m ρ _ => Cert.KernelIdeal.Gen.frame m ρ

/-- The reference runs and leaves its arguments as they were; it has no counters. -/
theorem frame_reference : Cert.quiescent_ReferenceIdeal (hReferenceIdeal := Cert.ReferenceIdeal.Gen.facts) :=
  fun m ρ _ => (θ_run _ _ _).mono (fun r h => ⟨fun c => (h c).2.2, sem_eq_zero_of_no_sems (by decide) r.2⟩)
    (Cert.ReferenceIdeal.Value.run (F := Ideal) m ρ)

/-- In particular where the precondition holds. -/
theorem frame_reference_finite :
    Cert.quiescent_ReferenceIdeal_pre_finite (hReferenceIdeal := Cert.ReferenceIdeal.Gen.facts) (hPre_finite := Cert.Pre_finite.Gen.facts) :=
  fun m ρ _ => frame_reference m ρ trivial

/-- The kernel's one named constant is the top. -/
theorem preserves : Cert.preserves_Kernel_KernelIdeal := IdealRules.named_const.statement _ _ _ _ _ rfl

/-- Over the extended reals the kernel and the reference end with equal results, where every coordinate is finite:
    both hold the sixteen least distances of each left curve and the right curves they belong to. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hPre hagree
  have hr := fun c => Cert.Knn.real_of_pre _ _ _ _ (hPre c)
  refine ⟨fun c => Cert.Knn.leastOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => Cert.Knn.whichOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run _ _ _).mono (fun r h c => ⟨((h.1 c).1 4).trans (Cert.Knn.final_4 m c (hr c).1 (hr c).2),
      ((h.1 c).1 5).trans (Cert.Knn.final_5 m c (hr c).1 (hr c).2), h.2 c⟩)
      (θ_run_and (Cert.KernelIdeal.Gen.run_main m g) (Cert.KernelIdeal.Gen.unchanged m g))
  · refine (θ_run _ _ _).mono (fun r h c => ?_) (Cert.ReferenceIdeal.Value.run (F := Ideal) m' g')
    obtain ⟨e0, e1, e2, e3⟩ := hagree c
    have hl := Cert.Knn.res_least m' c
    have hw := Cert.Knn.res_which m' c
    rw [e0, e1, e2, e3] at hl hw
    exact ⟨((h c).1.trans hl).trans (Cert.Knn.ref_least _ _ _ _ (hr c).1 (hr c).2),
      ((h c).2.1.trans hw).trans (Cert.Knn.ref_which _ _ _ _ (hr c).1 (hr c).2), (h c).2.2⟩

/-- All the claims together. -/
theorem claim : Cert.Claim :=
  ⟨Cert.Kernel.Gen.facts, Cert.KernelIdeal.Gen.facts, Cert.ReferenceIdeal.Gen.facts, Cert.Pre_finite.Gen.facts,
    frame_kernel, frame_ideal, frame_ideal_finite, frame_reference, frame_reference_finite, preserves, algebraic⟩

end Cert.Proof

end
